-- ==== Defs.lean ====
def Pre_Kernel [hPre_sizes_fit : Cert.Pre_sizes_fit.Facts] (m : (ℓ : Loc Cert.Kernel.nD Cert.Kernel.τ Cert.Kernel.sig) → Buf (Elt Bits) ℓ) : Prop :=
  ∀ c : Dev Cert.Kernel.nD,
    (Cert.Pre_sizes_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sizes_fit : Cert.Pre_sizes_fit.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_fit [hPre_sizes_fit : Cert.Pre_sizes_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_sizes_fit : Cert.Pre_sizes_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sizes_fit : Cert.Pre_sizes_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sizes_fit [hReferenceIdeal : Cert.ReferenceIdeal.Facts] [hPre_sizes_fit : Cert.Pre_sizes_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_fit : Cert.Pre_sizes_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sizes_fit : Cert.Pre_sizes_fit.Facts),
    quiescent_Kernel (hKernel := hKernel) (hPre_sizes_fit := hPre_sizes_fit)
    ∧ quiescent_KernelIdeal (hKernelIdeal := hKernelIdeal) (hPre_sizes_fit := hPre_sizes_fit)
    ∧ quiescent_ReferenceIdeal (hReferenceIdeal := hReferenceIdeal)
    ∧ quiescent_ReferenceIdeal_pre_sizes_fit (hReferenceIdeal := hReferenceIdeal) (hPre_sizes_fit := hPre_sizes_fit)
    ∧ preserves_Kernel_KernelIdeal
    ∧ algebraic_KernelIdeal_ReferenceIdeal (hKernelIdeal := hKernelIdeal) (hReferenceIdeal := hReferenceIdeal) (hPre_sizes_fit := hPre_sizes_fit)
-- ==== Pre_sizes_fit.lean ====
abbrev S32768x10752 : Shape := ⟨2, ![32768, 10752]⟩
abbrev S32768 : Shape := ⟨1, ![32768]⟩
abbrev S4x10752x6144 : Shape := ⟨3, ![4, 10752, 6144]⟩
abbrev S4x6144 : Shape := ⟨2, ![4, 6144]⟩
abbrev S4 : Shape := ⟨1, ![4]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : FVec F S32768x10752 .fp8e4m3) (main_arg1 : FVec F S32768 .f32) (main_arg2 : FVec F S4x10752x6144 .fp8e4m3) (main_arg3 : FVec F S4x6144 .f32) (main_arg4 : IVec S4 32) : IVec S_ 1 :=
  let main_c : IVec S_ 32 := constantI S_ 32 0#32
  let main_v0 : IVec S4 32 := broadcastInDim S4 ![] bcast_S_S4 main_c
  let main_v1 : IVec S4 1 := cmpi .sge main_arg4 main_v0
  let main_c_0 : IVec S_ 32 := constantI S_ 32 32768#32
  let main_v2 : IVec S4 32 := broadcastInDim S4 ![] bcast_S_S4 main_c_0
  let main_v3 : IVec S4 1 := cmpi .sle main_arg4 main_v2
  let main_v4 : IVec S4 1 := andi main_v1 main_v3
  let main_c_1 : IVec S_ 1 := constantI S_ 1 1#1
  let main_v5 : IVec S_ 1 := (fun x v => Host.reduce IntOp.andi x v reducesTo_S4_S_d0 h_S_) main_v4 main_c_1
  let main_c_2 : IVec S_ 32 := constantI S_ 32 0#32
  let main_v6 : IVec S_ 32 := (fun x v => Host.reduce IntOp.addi x v reducesTo_S4_S_d0 h_S_) main_arg4 main_c_2
  let main_c_3 : IVec S_ 32 := constantI S_ 32 32768#32
  let main_v7 : IVec S_ 1 := cmpi .sle main_v6 main_c_3
  let main_v8 : IVec S_ 1 := andi main_v5 main_v7
  main_v8
-- ==== Kernel.lean ====
abbrev S32768x10752 : Shape := ⟨2, ![32768, 10752]⟩
abbrev S32768 : Shape := ⟨1, ![32768]⟩
abbrev S4x10752x6144 : Shape := ⟨3, ![4, 10752, 6144]⟩
abbrev S4x6144 : Shape := ⟨2, ![4, 6144]⟩
abbrev S4 : Shape := ⟨1, ![4]⟩
abbrev S_ : Shape := ⟨0, ![]⟩
abbrev S1 : Shape := ⟨1, ![1]⟩
abbrev S5 : Shape := ⟨1, ![5]⟩
abbrev S36 : Shape := ⟨1, ![36]⟩
abbrev S1x36 : Shape := ⟨2, ![1, 36]⟩
abbrev S5x1 : Shape := ⟨2, ![5, 1]⟩
abbrev S5x36 : Shape := ⟨2, ![5, 36]⟩
abbrev S36x1 : Shape := ⟨2, ![36, 1]⟩
abbrev S32768x1 : Shape := ⟨2, ![32768, 1]⟩
abbrev S4x1x6144 : Shape := ⟨3, ![4, 1, 6144]⟩
abbrev S32768x6144 : Shape := ⟨2, ![32768, 6144]⟩
abbrev S1024x10752 : Shape := ⟨2, ![1024, 10752]⟩
abbrev S1024x1 : Shape := ⟨2, ![1024, 1]⟩
abbrev S1x10752x1024 : Shape := ⟨3, ![1, 10752, 1024]⟩
abbrev S1x1x1024 : Shape := ⟨3, ![1, 1, 1024]⟩
abbrev S1024x1024 : Shape := ⟨2, ![1024, 1024]⟩
abbrev S10752x1024 : Shape := ⟨2, ![10752, 1024]⟩
abbrev S1x1024 : Shape := ⟨2, ![1, 1024]⟩

abbrev nBuf : Space → Nat
  | .hbm => 145
  | .vmem => 10
  | .smem => 4
  | _ => 0

abbrev hbmTy0_0 (i : Nat) : BufTy := match i % 128 with
  | 0 => ⟨S32768x10752, .fp8e4m3⟩
  | 1 => ⟨S32768, .f32⟩
  | 2 => ⟨S4x10752x6144, .fp8e4m3⟩
  | 3 => ⟨S4x6144, .f32⟩
  | 4 => ⟨S4, .i32⟩
  | 5 => ⟨S_, .i32⟩
  | 6 => ⟨S_, .i32⟩
  | 7 => ⟨S1, .i32⟩
  | 8 => ⟨S_, .i32⟩
  | 9 => ⟨S1, .i32⟩
  | 10 => ⟨S1, .i32⟩
  | 11 => ⟨S5, .i32⟩
  | 12 => ⟨S_, .i32⟩
  | 13 => ⟨S_, .i32⟩
  | 14 => ⟨S5, .i32⟩
  | 15 => ⟨S5, .i32⟩
  | 16 => ⟨S_, .i32⟩
  | 17 => ⟨S_, .i32⟩
  | 18 => ⟨S5, .i32⟩
  | 19 => ⟨S5, .i32⟩
  | 20 => ⟨S5, .i32⟩
  | 21 => ⟨S_, .i32⟩
  | 22 => ⟨S5, .i32⟩
  | 23 => ⟨S5, .i1⟩
  | 24 => ⟨S5, .i32⟩
  | 25 => ⟨S5, .i32⟩
  | 26 => ⟨S_, .i32⟩
  | 27 => ⟨S5, .i32⟩
  | 28 => ⟨S5, .i1⟩
  | 29 => ⟨S5, .i1⟩
  | 30 => ⟨S_, .i32⟩
  | 31 => ⟨S5, .i32⟩
  | 32 => ⟨S5, .i32⟩
  | 33 => ⟨S5, .i32⟩
  | 34 => ⟨S_, .i32⟩
  | 35 => ⟨S5, .i32⟩
  | 36 => ⟨S5, .i1⟩
  | 37 => ⟨S_, .i32⟩
  | 38 => ⟨S5, .i32⟩
  | 39 => ⟨S5, .i32⟩
  | 40 => ⟨S_, .i32⟩
  | 41 => ⟨S_, .i32⟩
  | 42 => ⟨S5, .i32⟩
  | 43 => ⟨S5, .i32⟩
  | 44 => ⟨S5, .i32⟩
  | 45 => ⟨S_, .i32⟩
  | 46 => ⟨S5, .i32⟩
  | 47 => ⟨S5, .i1⟩
  | 48 => ⟨S5, .i32⟩
  | 49 => ⟨S5, .i32⟩
  | 50 => ⟨S_, .i32⟩
  | 51 => ⟨S5, .i32⟩
  | 52 => ⟨S5, .i1⟩
  | 53 => ⟨S5, .i1⟩
  | 54 => ⟨S_, .i32⟩
  | 55 => ⟨S5, .i32⟩
  | 56 => ⟨S5, .i32⟩
  | 57 => ⟨S5, .i32⟩
  | 58 => ⟨S5, .i32⟩
  | 59 => ⟨S_, .i32⟩
  | 60 => ⟨S5, .i32⟩
  | 61 => ⟨S5, .i32⟩
  | 62 => ⟨S_, .i32⟩
  | 63 => ⟨S_, .i32⟩
  | 64 => ⟨S5, .i32⟩
  | 65 => ⟨S5, .i32⟩
  | 66 => ⟨S_, .i32⟩
  | 67 => ⟨S_, .i32⟩
  | 68 => ⟨S5, .i32⟩
  | 69 => ⟨S5, .i32⟩
  | 70 => ⟨S36, .i32⟩
  | 71 => ⟨S1, .i32⟩
  | 72 => ⟨S_, .i32⟩
  | 73 => ⟨S36, .i32⟩
  | 74 => ⟨S36, .i1⟩
  | 75 => ⟨S1, .i32⟩
  | 76 => ⟨S_, .i32⟩
  | 77 => ⟨S_, .i32⟩
  | 78 => ⟨S_, .i32⟩
  | 79 => ⟨S36, .i32⟩
  | 80 => ⟨S36, .i32⟩
  | 81 => ⟨S1x36, .i32⟩
  | 82 => ⟨S5x1, .i32⟩
  | 83 => ⟨S5x36, .i32⟩
  | 84 => ⟨S5x36, .i32⟩
  | 85 => ⟨S5x36, .i1⟩
  | 86 => ⟨S5x36, .i32⟩
  | 87 => ⟨S_, .i32⟩
  | 88 => ⟨S36, .i32⟩
  | 89 => ⟨S_, .i32⟩
  | 90 => ⟨S36, .i32⟩
  | 91 => ⟨S36, .i1⟩
  | 92 => ⟨S_, .i32⟩
  | 93 => ⟨S36, .i32⟩
  | 94 => ⟨S36, .i32⟩
  | 95 => ⟨S36, .i32⟩
  | 96 => ⟨S36x1, .i32⟩
  | 97 => ⟨S36, .i32⟩
  | 98 => ⟨S36, .i32⟩
  | 99 => ⟨S_, .i32⟩
  | 100 => ⟨S36, .i32⟩
  | 101 => ⟨S36, .i1⟩
  | 102 => ⟨S_, .i32⟩
  | 103 => ⟨S36, .i32⟩
  | 104 => ⟨S36, .i32⟩
  | 105 => ⟨S36, .i32⟩
  | 106 => ⟨S36x1, .i32⟩
  | 107 => ⟨S36, .i32⟩
  | 108 => ⟨S_, .i32⟩
  | 109 => ⟨S36, .i32⟩
  | 110 => ⟨S36, .i1⟩
  | 111 => ⟨S_, .i32⟩
  | 112 => ⟨S36, .i32⟩
  | 113 => ⟨S36, .i32⟩
  | 114 => ⟨S36, .i32⟩
  | 115 => ⟨S36x1, .i32⟩
  | 116 => ⟨S36, .i32⟩
  | 117 => ⟨S_, .i32⟩
  | 118 => ⟨S36, .i32⟩
  | 119 => ⟨S36, .i32⟩
  | 120 => ⟨S_, .i32⟩
  | 121 => ⟨S36, .i32⟩
  | 122 => ⟨S36, .i1⟩
  | 123 => ⟨S_, .i32⟩
  | 124 => ⟨S36, .i32⟩
  | 125 => ⟨S36, .i32⟩
  | 126 => ⟨S36, .i32⟩
  | 127 => ⟨S36x1, .i32⟩
  | _ => ⟨S32768x10752, .fp8e4m3⟩

abbrev hbmTy0_1 (i : Nat) : BufTy := match i % 128 with
  | 0 => ⟨S36, .i32⟩
  | 1 => ⟨S_, .i32⟩
  | 2 => ⟨S36, .i32⟩
  | 3 => ⟨S36, .i32⟩
  | 4 => ⟨S_, .i32⟩
  | 5 => ⟨S36, .i32⟩
  | 6 => ⟨S36, .i32⟩
  | 7 => ⟨S36, .i32⟩
  | 8 => ⟨S_, .i32⟩
  | 9 => ⟨S36, .i32⟩
  | 10 => ⟨S36, .i1⟩
  | 11 => ⟨S36, .i1⟩
  | 12 => ⟨S_, .i32⟩
  | 13 => ⟨S36, .i32⟩
  | 14 => ⟨S32768x1, .f32⟩
  | 15 => ⟨S4x1x6144, .f32⟩
  | 16 => ⟨S32768x6144, .bf16⟩
  | _ => ⟨S32768x10752, .fp8e4m3⟩

abbrev hbmTy (i : Nat) : BufTy := match i / 128 with
  | 0 => hbmTy0_0 i
  | 1 => hbmTy0_1 i
  | _ => ⟨S32768x10752, .fp8e4m3⟩

abbrev bufTy : (tb : Table) → Fin (tcTables nBuf tb) → BufTy
  | .hbm, ⟨i, _⟩ => hbmTy i
  | .local _ .vmem, ⟨0, _⟩ => ⟨S1024x10752, .fp8e4m3⟩
  | .local _ .vmem, ⟨1, _⟩ => ⟨S1024x10752, .fp8e4m3⟩
  | .local _ .vmem, ⟨2, _⟩ => ⟨S1024x1, .f32⟩
  | .local _ .vmem, ⟨3, _⟩ => ⟨S1024x1, .f32⟩
  | .local _ .vmem, ⟨4, _⟩ => ⟨S1x10752x1024, .fp8e4m3⟩
  | .local _ .vmem, ⟨5, _⟩ => ⟨S1x10752x1024, .fp8e4m3⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1024x1024, .bf16⟩
  | .local _ .smem, ⟨0, _⟩ => ⟨S36, .i32⟩
  | .local _ .smem, ⟨1, _⟩ => ⟨S36, .i32⟩
  | .local _ .smem, ⟨2, _⟩ => ⟨S36, .i32⟩
  | .local _ .smem, ⟨3, _⟩ => ⟨S36, .i32⟩
  | _, _ => ⟨S32768x10752, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_call0_c : Ref sig .tc := ⟨.hbm, 12, rfl⟩
abbrev main_call0_call0_v0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_c : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_0 : Ref sig .tc := ⟨.hbm, 30, rfl⟩
abbrev main_call1_v12 : Ref sig .tc := ⟨.hbm, 31, rfl⟩
abbrev main_call1_v13 : Ref sig .tc := ⟨.hbm, 32, rfl⟩
abbrev main_v7 : Ref sig .tc := ⟨.hbm, 33, rfl⟩
abbrev main_c_2 : Ref sig .tc := ⟨.hbm, 34, rfl⟩
abbrev main_v8 : Ref sig .tc := ⟨.hbm, 35, rfl⟩
abbrev main_v9 : Ref sig .tc := ⟨.hbm, 36, rfl⟩
abbrev main_c_3 : Ref sig .tc := ⟨.hbm, 37, rfl⟩
abbrev main_v10 : Ref sig .tc := ⟨.hbm, 38, rfl⟩
abbrev main_v11 : Ref sig .tc := ⟨.hbm, 39, rfl⟩
abbrev main_c_4 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_c : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_0 : Ref sig .tc := ⟨.hbm, 54, rfl⟩
abbrev main_call2_v12 : Ref sig .tc := ⟨.hbm, 55, rfl⟩
abbrev main_call2_v13 : Ref sig .tc := ⟨.hbm, 56, rfl⟩
abbrev main_v12 : Ref sig .tc := ⟨.hbm, 57, rfl⟩
abbrev main_v13 : Ref sig .tc := ⟨.hbm, 58, rfl⟩
abbrev main_c_5 : Ref sig .tc := ⟨.hbm, 59, rfl⟩
abbrev main_v14 : Ref sig .tc := ⟨.hbm, 60, rfl⟩
abbrev main_v15 : Ref sig .tc := ⟨.hbm, 61, rfl⟩
abbrev main_c_6 : Ref sig .tc := ⟨.hbm, 62, rfl⟩
abbrev main_call3_v0 : Ref sig .tc := ⟨.hbm, 63, rfl⟩
abbrev main_call3_v1 : Ref sig .tc := ⟨.hbm, 64, rfl⟩
abbrev main_v16 : Ref sig .tc := ⟨.hbm, 65, rfl⟩
abbrev main_call4_call0_c : Ref sig .tc := ⟨.hbm, 66, rfl⟩
abbrev main_call4_call0_v0 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_c_7 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_call5_call0_v0 : Ref sig .tc := ⟨.hbm, 81, rfl⟩
abbrev main_call5_call0_v1 : Ref sig .tc := ⟨.hbm, 82, rfl⟩
abbrev main_call5_call0_v2 : Ref sig .tc := ⟨.hbm, 83, rfl⟩
abbrev main_call5_call0_v3 : Ref sig .tc := ⟨.hbm, 84, rfl⟩
abbrev main_call5_call0_v4 : Ref sig .tc := ⟨.hbm, 85, rfl⟩
abbrev main_call5_call0_v5 : Ref sig .tc := ⟨.hbm, 86, rfl⟩
abbrev main_call5_call0_c : Ref sig .tc := ⟨.hbm, 87, rfl⟩
abbrev main_v29 : Ref sig .tc := ⟨.hbm, 88, rfl⟩
abbrev main_c_8 : Ref sig .tc := ⟨.hbm, 89, rfl⟩
abbrev main_v30 : Ref sig .tc := ⟨.hbm, 90, rfl⟩
abbrev main_v31 : Ref sig .tc := ⟨.hbm, 91, rfl⟩
abbrev main_c_9 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_c_10 : Ref sig .tc := ⟨.hbm, 99, rfl⟩
abbrev main_v38 : Ref sig .tc := ⟨.hbm, 100, rfl⟩
abbrev main_v39 : Ref sig .tc := ⟨.hbm, 101, rfl⟩
abbrev main_c_11 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_c_12 : Ref sig .tc := ⟨.hbm, 108, rfl⟩
abbrev main_v46 : Ref sig .tc := ⟨.hbm, 109, rfl⟩
abbrev main_v47 : Ref sig .tc := ⟨.hbm, 110, rfl⟩
abbrev main_c_13 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_c_14 : Ref sig .tc := ⟨.hbm, 117, rfl⟩
abbrev main_v53 : Ref sig .tc := ⟨.hbm, 118, rfl⟩
abbrev main_v54 : Ref sig .tc := ⟨.hbm, 119, rfl⟩
abbrev main_c_15 : Ref sig .tc := ⟨.hbm, 120, rfl⟩
abbrev main_v56 : Ref sig .tc := ⟨.hbm, 121, rfl⟩
abbrev main_v57 : Ref sig .tc := ⟨.hbm, 122, rfl⟩
abbrev main_c_16 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_c_17 : Ref sig .tc := ⟨.hbm, 129, rfl⟩
abbrev main_v63 : Ref sig .tc := ⟨.hbm, 130, rfl⟩
abbrev main_v64 : Ref sig .tc := ⟨.hbm, 131, rfl⟩
abbrev main_c_18 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_c_19 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_c_20 : Ref sig .tc := ⟨.hbm, 140, rfl⟩
abbrev main_v72 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v45 : Ref sig .tc := ⟨.smem, 0, rfl⟩
abbrev main_v73 : Ref sig .tc := ⟨.smem, 1, rfl⟩
abbrev main_v55 : Ref sig .tc := ⟨.smem, 2, rfl⟩
abbrev main_v71 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 36], ![false, false]⟩

abbrev pre0 : Pipeline.Prefetch sig := ⟨4, ![main_v45.idx, main_v73.idx, main_v55.idx, main_v71.idx], fun | 0 => main_v45.names | 1 => main_v73.names | 2 => main_v55.names | 3 => main_v71.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v7 : BitVec 32 := Scalar.subi arg1 c1_i32
  let c0_i32_0 : BitVec 32 := 0#32
  let v8 : BitVec 32 := Scalar.maxsi v7 c0_i32_0
  let v9 : Index := Scalar.indexCast v8
  ![v9.toNat]
def k0_cond1 (i : grid0.Coords) (v1 : BitVec 32) (v10 : BitVec 32) : BitVec 1 :=
  let arg1 : BitVec 32 := BitVec.ofNat 32 (i 1).val
  let c0_i32 : BitVec 32 := 0#32
  let v6 : BitVec 1 := Scalar.cmpi .eq arg1 c0_i32
  let v11 : BitVec 1 := Scalar.cmpi .ne v10 v1
  let v12 : BitVec 1 := Scalar.ori v6 v11
  let v13 : BitVec 32 := Scalar.extui v12
  let c0_i32_1 : BitVec 32 := 0#32
  let v14 : BitVec 1 := Scalar.cmpi .ne v13 c0_i32_1
  v14

def k0_cond2 (v3 : BitVec 32) (v5 : BitVec 32) : BitVec 1 :=
  let v15 : BitVec 1 := Scalar.cmpi .sgt v5 v3
  let v16 : BitVec 32 := Scalar.extui v15
  let c0_i32_2 : BitVec 32 := 0#32
  let v17 : BitVec 1 := Scalar.cmpi .ne v16 c0_i32_2
  v17

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![v1.toNat, c0_i32.toNat, arg0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![v1.toNat, c0_i32.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

abbrev stage0_0 : Fin 2 → Memref sig .tc .vmem S1024x10752 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x10752x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S32768x10752 : Shape := ⟨2, ![32768, 10752]⟩
abbrev S32768 : Shape := ⟨1, ![32768]⟩
abbrev S4x10752x6144 : Shape := ⟨3, ![4, 10752, 6144]⟩
abbrev S4x6144 : Shape := ⟨2, ![4, 6144]⟩
abbrev S4 : Shape := ⟨1, ![4]⟩
abbrev S32768x1 : Shape := ⟨2, ![32768, 1]⟩
abbrev S32768x6144 : Shape := ⟨2, ![32768, 6144]⟩
abbrev S1 : Shape := ⟨1, ![1]⟩
abbrev S1x10752x6144 : Shape := ⟨3, ![1, 10752, 6144]⟩
abbrev S10752x6144 : Shape := ⟨2, ![10752, 6144]⟩
abbrev S1x6144 : Shape := ⟨2, ![1, 6144]⟩
abbrev S6144 : Shape := ⟨1, ![6144]⟩

abbrev nBuf : Space → Nat
  | .hbm => 7
  | .vmem => 5
  | .smem => 1
  | _ => 0

abbrev bufTy : (tb : Table) → Fin (tcTables nBuf tb) → BufTy
  | .hbm, ⟨0, _⟩ => ⟨S32768x10752, .fp8e4m3⟩
  | .hbm, ⟨1, _⟩ => ⟨S32768, .f32⟩
  | .hbm, ⟨2, _⟩ => ⟨S4x10752x6144, .fp8e4m3⟩
  | .hbm, ⟨3, _⟩ => ⟨S4x6144, .f32⟩
  | .hbm, ⟨4, _⟩ => ⟨S4, .i32⟩
  | .hbm, ⟨5, _⟩ => ⟨S32768x1, .f32⟩
  | .hbm, ⟨6, _⟩ => ⟨S32768x6144, .bf16⟩
  | .local _ .vmem, ⟨0, _⟩ => ⟨S32768x10752, .fp8e4m3⟩
  | .local _ .vmem, ⟨1, _⟩ => ⟨S32768x1, .f32⟩
  | .local _ .vmem, ⟨2, _⟩ => ⟨S4x10752x6144, .fp8e4m3⟩
  | .local _ .vmem, ⟨3, _⟩ => ⟨S4x6144, .f32⟩
  | .local _ .vmem, ⟨4, _⟩ => ⟨S32768x6144, .bf16⟩
  | .local _ .smem, ⟨0, _⟩ => ⟨S4, .i32⟩
  | _, _ => ⟨S32768x10752, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x10752 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x10752x6144 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Entry.lean ====
/- What the grouped matrix product's region finds: the buffers after the host operations that build the schedule, the four
   prefetched tables read off them, and the windows' blocks at those tables. -/
module

public import proofs.«01_k».proof.Proof.Gen.Kernel.Launch
public import proofs.«01_k».proof.Proof.Gen.Kernel.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stretches of host operations before the region, in order. -/
abbrev stretches : List (List (HloOp τ sig (Elt F))) :=
  [hostOps0, hostOps0_1, hostOps0_2, hostOps0_3, hostOps0_4, hostOps0_5, hostOps0_6, hostOps0_7, hostOps0_8, hostOps0_9,
    hostOps0_10, hostOps0_11, hostOps0_12, hostOps0_13]

/-- Core `c`'s TensorCore buffers when the region is entered. -/
abbrev V (c : Dev nD) (b : Ref sig .tc) : Buf (Elt F) ((c : Thread nD τ).loc b) :=
  StableHlo.after (List.flatten stretches) (fun b => m (c, b)) b

theorem stretches_sub : (stretches (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub,
    hostOps0_7_sub, hostOps0_8_sub, hostOps0_9_sub, hostOps0_10_sub, hostOps0_11_sub, hostOps0_12_sub, hostOps0_13_sub⟩

theorem stretches_fresh : (stretches (F := F)).Forall fun ops => ops.Forall fun op => op.fresh = ∅ := by
  simp only [List.Forall]; repeat' constructor

set_option maxHeartbeats 800000 in
/-- @main up to the region: the stretches, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main stretches stretches_sub stretches_fresh main_chain

/-! ## The tables -/

/-- The tables' contents when the region is entered. -/
def tbl : pre0.Contents (Elt F) := fun j => V m (0 : Dev nD) (pre0.ref j)

theorem V_pre (c : Dev nD) (j : Fin 4) : V m c (pre0.ref j) = tbl m j := by
  obtain rfl : c = 0 := Subsingleton.elim _ _; rfl

/-- The tables place every block inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0 : Memref sig .tc .smem S36 .i32 := Memref.whole main_v45
abbrev tbM1 : Memref sig .tc .smem S36 .i32 := Memref.whole main_v73
abbrev tbM2 : Memref sig .tc .smem S36 .i32 := Memref.whole main_v55
abbrev tbM3 : Memref sig .tc .smem S36 .i32 := Memref.whole main_v71

/-- A table's buffer on core `c`, and that buffer held at half the full share. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The four tables' halves, one by one. -/
theorem PhiT_eq (c : Dev nD) : (Pipeline.ΦT pre0 (tbl m) c : sProp 𝕄) =
    iprop(tbPt c tbM0 (tbl m 0) ∗ tbPt c tbM1 (tbl m 1) ∗ tbPt c tbM2 (tbl m 2) ∗ tbPt c tbM3 (tbl m 3)) := by
  unfold Pipeline.ΦT Pipeline.prefHeld
  rw [show (Finset.univ : Finset (Fin 4)) = {(0 : Fin 4), 1, 2, 3} from by decide,
    bigSep_insert (by decide), bigSep_insert (by decide), bigSep_insert (by decide), bigSep_singleton]
  rfl

/-! ## The windows' blocks -/

/-- Window `w`'s block at point `t`, read off its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- Each input's current staging buffer holds its block at every point. -/
theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`. -/
abbrev ms0 (hO : Ok m) (t : Fin (cfgM m hO).N) : Memref sig .tc .vmem S1024x10752 .fp8e4m3 := spec0_0.stage ((cfgM m hO).slots t 0)
abbrev ms1 (hO : Ok m) (t : Fin (cfgM m hO).N) : Memref sig .tc .vmem S1024x1 .f32 := spec0_1.stage ((cfgM m hO).slots t 1)
abbrev ms2 (hO : Ok m) (t : Fin (cfgM m hO).N) : Memref sig .tc .vmem S1x10752x1024 .fp8e4m3 := spec0_2.stage ((cfgM m hO).slots t 2)
abbrev ms3 (hO : Ok m) (t : Fin (cfgM m hO).N) : Memref sig .tc .vmem S1x1x1024 .f32 := spec0_3.stage ((cfgM m hO).slots t 3)
abbrev ms4 (hO : Ok m) (t : Fin (cfgM m hO).N) : Memref sig .tc .vmem S1024x1024 .bf16 := spec0_4.stage ((cfgM m hO).slots t 4)

/-- The kernel body at point `t`, on what the pipeline calls it with. -/
abbrev bodyAt (a : (pcfg0 (F := F)).Adm) (t : Fin (cfg0 a).N) : Prog (TpuEff nD τ sig (Elt F) Λ₀ .tc) PUnit :=
  cc0__gmm_kernel (grid0.coords t) tbM0 (Memref.isWhole_whole _) tbM1 (Memref.isWhole_whole _) tbM2 (Memref.isWhole_whole _) tbM3 (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))

/-- The body table's row at point `t`'s slots is that body. -/
theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

end Cert.Kernel.Run

end
-- ==== Proof.Sched.lean ====
/- The schedule of the grouped matrix product, in natural numbers. Five groups of rows, one after the other, fill the
   32768 rows; the fifth is what the four sizes leave over. The work items, at most 36, walk the tiles of 1024 rows group by
   group; a tile that two groups share is visited once by each. Past the last work item the schedule repeats it. -/
module

public import Mathlib.Data.Nat.Count
public import Mathlib.Algebra.BigOperators.Group.List.Basic
public import Mathlib.Tactic.IntervalCases

@[expose] public section

namespace Cert.Sched

variable (s : ℕ → ℕ)

/-- The sum of `f 0 … f e`. -/
def psum (f : ℕ → ℕ) (e : ℕ) : ℕ := ((List.range (e + 1)).map f).sum

theorem psum_zero (f : ℕ → ℕ) : psum f 0 = f 0 := by simp [psum]
theorem psum_succ (f : ℕ → ℕ) (e : ℕ) : psum f (e + 1) = psum f e + f (e + 1) := by
  unfold psum
  rw [List.range_succ, List.map_append, List.sum_append]
  simp

/-- The row where group `e` ends. -/
def E (e : ℕ) : ℕ := psum s e
/-- The row where group `e` starts. -/
def S (e : ℕ) : ℕ := E s e - s e
/-- How many work items group `e` takes: one for each tile it meets. -/
def n (e : ℕ) : ℕ := if 0 < s e then (E s e - 1) / 1024 - S s e / 1024 + 1 else 0
/-- The work item after group `e`'s last. -/
def W (e : ℕ) : ℕ := psum (n s) e
/-- Group `e`'s first work item. -/
def Fi (e : ℕ) : ℕ := W s e - n s e
/-- The work item that position `i` stands for. -/
def wc (i : ℕ) : ℕ := min i (W s 4 - 1)
/-- The group of position `i`. -/
def G (i : ℕ) : ℕ := Nat.count (fun e => W s e ≤ wc s i) 5
/-- The tile of position `i`. -/
def T (i : ℕ) : ℕ := S s (G s i) / 1024 + wc s i - Fi s (G s i)
/-- The first row of position `i`. -/
def Lo (i : ℕ) : ℕ := max (S s (G s i)) (T s i * 1024)
/-- One past the last row of position `i`. -/
def X (i : ℕ) : ℕ := min (E s (G s i)) ((T s i + 1) * 1024)
/-- One past the last row that position `i` writes: an empty range where nothing is to be written. -/
def Hi (i : ℕ) : ℕ := if i < W s 4 ∧ G s i < 4 then X s i else Lo s i

section Facts
theorem E_zero : E s 0 = s 0 := psum_zero s
theorem E_succ (e : ℕ) : E s (e + 1) = E s e + s (e + 1) := psum_succ s e
theorem W_zero : W s 0 = n s 0 := psum_zero _
theorem W_succ (e : ℕ) : W s (e + 1) = W s e + n s (e + 1) := psum_succ _ e
theorem s_le_E (e : ℕ) : s e ≤ E s e := by
  cases e with
  | zero => rw [E_zero]
  | succ e => rw [E_succ]; omega
theorem n_le_W (e : ℕ) : n s e ≤ W s e := by
  cases e with
  | zero => rw [W_zero]
  | succ e => rw [W_succ]; omega
theorem S_zero : S s 0 = 0 := by unfold S; rw [E_zero]; omega
theorem S_succ (e : ℕ) : S s (e + 1) = E s e := by unfold S; rw [E_succ]; omega
theorem Fi_zero : Fi s 0 = 0 := by unfold Fi; rw [W_zero]; omega
theorem Fi_succ (e : ℕ) : Fi s (e + 1) = W s e := by unfold Fi; rw [W_succ]; omega
theorem n_pos {e : ℕ} (h : 0 < s e) : n s e = (E s e - 1) / 1024 - S s e / 1024 + 1 := if_pos h
theorem n_nil {e : ℕ} (h : s e = 0) : n s e = 0 := if_neg (by omega)
theorem W_mono {a b : ℕ} (h : a ≤ b) : W s a ≤ W s b := by
  induction b, h using Nat.le_induction with
  | base => exact le_rfl
  | succ k _ ih => rw [W_succ]; omega
theorem E_mono {a b : ℕ} (h : a ≤ b) : E s a ≤ E s b := by
  induction b, h using Nat.le_induction with
  | base => exact le_rfl
  | succ k _ ih => rw [E_succ]; omega

/-- Where rows end at `E e`, the work items so far are the tiles met so far, and at most one more for each boundary. -/
theorem W_bounds (e : ℕ) : (E s e = 0 → W s e = 0) ∧ (0 < E s e → (E s e - 1) / 1024 + 1 ≤ W s e ∧ W s e ≤ (E s e - 1) / 1024 + 1 + e) := by
  induction e with
  | zero =>
    rw [E_zero, W_zero]
    refine ⟨fun h => n_nil s h, fun h => ?_⟩
    rw [n_pos s h, E_zero, S_zero]; omega
  | succ e ih =>
    rw [E_succ, W_succ]
    rcases Nat.eq_zero_or_pos (s (e + 1)) with h | h
    · rw [n_nil s h, h]
      refine ⟨fun h' => ?_, fun h' => ?_⟩
      · have := ih.1 (by omega); omega
      · have := ih.2 (by omega); simp only [Nat.add_zero] at *; omega
    · rw [n_pos s h, E_succ, S_succ]
      refine ⟨fun h' => by omega, fun _ => ?_⟩
      rcases Nat.eq_zero_or_pos (E s e) with h0 | h0
      · have := ih.1 h0; rw [h0, this]; omega
      · have := ih.2 h0; omega

/-- Two work items in a row: the groups between their groups are empty. -/
theorem E_gap {a b : ℕ} (hab : a ≤ b) (h : W s a = W s b) : E s a = E s b := by
  induction b, hab using Nat.le_induction with
  | base => rfl
  | succ k hk ih =>
    have h1 := W_mono s hk
    rw [W_succ] at h
    have hn : n s (k + 1) = 0 := by omega
    have hs : s (k + 1) = 0 := by
      rcases Nat.eq_zero_or_pos (s (k + 1)) with h | h
      · exact h
      · rw [n_pos s h] at hn; omega
    rw [E_succ, hs, ih (by omega), Nat.add_zero]
end Facts

section Full
variable {s} (hE : E s 4 = 32768)
include hE

theorem total_bounds : 32 ≤ W s 4 ∧ W s 4 ≤ 36 := by
  have := (W_bounds s 4).2 (by omega)
  omega

theorem wc_lt (i : ℕ) : wc s i < W s 4 := by
  have := total_bounds hE
  unfold wc; omega

/-- The group of position `i` is the one whose work items hold it. -/
theorem G_spec (i : ℕ) : G s i ≤ 4 ∧ Fi s (G s i) ≤ wc s i ∧ wc s i < W s (G s i) := by
  have hw := wc_lt hE i
  have m0 := W_mono s (show 0 ≤ 1 by omega)
  have m1 := W_mono s (show 1 ≤ 2 by omega)
  have m2 := W_mono s (show 2 ≤ 3 by omega)
  have m3 := W_mono s (show 3 ≤ 4 by omega)
  have key : ∀ g, G s i = g → g ≤ 4 ∧ Fi s g ≤ wc s i ∧ wc s i < W s g := by
    intro g hg
    unfold G at hg
    simp only [Nat.count_succ, Nat.count_zero] at hg
    have f1 := Fi_succ s 0
    have f2 := Fi_succ s 1
    have f3 := Fi_succ s 2
    have f4 := Fi_succ s 3
    have f0 := Fi_zero s
    norm_num at f1 f2 f3 f4
    split_ifs at hg <;> first | omega | (norm_num at hg; subst hg; omega)
  exact key _ rfl

theorem G_eq {i g : ℕ} (h1 : Fi s g ≤ wc s i) (h2 : wc s i < W s g) : G s i = g := by
  obtain ⟨-, a, b⟩ := G_spec hE i
  rcases Nat.lt_trichotomy (G s i) g with h | h | h
  · obtain ⟨k, rfl⟩ : ∃ k, g = k + 1 := ⟨g - 1, by omega⟩
    rw [Fi_succ] at h1
    have := W_mono s (show G s i ≤ k by omega)
    omega
  · exact h
  · obtain ⟨k, hk⟩ : ∃ k, G s i = k + 1 := ⟨G s i - 1, by omega⟩
    rw [hk, Fi_succ] at a
    have := W_mono s (show g ≤ k by omega)
    omega

/-- What a position's group is like: not empty, and its tile is one that the group meets. -/
theorem pos_spec (i : ℕ) : 0 < s (G s i) ∧ S s (G s i) + s (G s i) = E s (G s i) ∧ E s (G s i) ≤ 32768 ∧ Fi s (G s i) + n s (G s i) = W s (G s i) ∧
    n s (G s i) = (E s (G s i) - 1) / 1024 - S s (G s i) / 1024 + 1 := by
  obtain ⟨a, b, c⟩ := G_spec hE i
  have hp : 0 < s (G s i) := by
    rcases Nat.eq_zero_or_pos (s (G s i)) with h | h
    · have := n_nil s h; unfold Fi at b; omega
    · exact h
  have h1 := s_le_E s (G s i)
  have h2 := n_le_W s (G s i)
  refine ⟨hp, by unfold S; omega, hE ▸ E_mono s a, by unfold Fi; omega, n_pos s hp⟩

theorem T_lt (i : ℕ) : T s i < 32 := by
  obtain ⟨a, b, c⟩ := G_spec hE i
  obtain ⟨h1, h2, h3, h4, h5⟩ := pos_spec hE i
  unfold T
  omega

theorem S_le_Lo (i : ℕ) : S s (G s i) ≤ Lo s i ∧ T s i * 1024 ≤ Lo s i := by unfold Lo; omega
theorem X_le (i : ℕ) : X s i ≤ E s (G s i) ∧ X s i ≤ (T s i + 1) * 1024 ∧ X s i ≤ 32768 := by
  obtain ⟨h1, h2, h3, h4, h5⟩ := pos_spec hE i
  unfold X; omega

/-- The first position starts at row 0 of tile 0. -/
theorem first : T s 0 = 0 ∧ Lo s 0 = 0 := by
  have hw : wc s 0 = 0 := by unfold wc; omega
  obtain ⟨a, b, c⟩ := G_spec hE 0
  obtain ⟨h1, h2, h3, h4, h5⟩ := pos_spec hE 0
  have hS : S s (G s 0) = 0 := by
    rcases Nat.eq_zero_or_pos (G s 0) with h | h
    · rw [h, S_zero]
    · obtain ⟨k, hk⟩ : ∃ k, G s 0 = k + 1 := ⟨G s 0 - 1, by omega⟩
      rw [hk] at b ⊢
      rw [Fi_succ] at b
      rw [S_succ]
      have := W_bounds s k
      by_contra hne
      have := this.2 (by omega)
      omega
  have hT : T s 0 = 0 := by unfold T; omega
  refine ⟨hT, ?_⟩
  unfold Lo; omega

/-- One position further: the next rows follow those before, in the same tile or in the one after it. -/
theorem next {i : ℕ} (hi : i + 1 < W s 4) : Lo s (i + 1) = X s i ∧
    ((T s (i + 1) = T s i) ∨ (T s (i + 1) = T s i + 1 ∧ X s i = (T s i + 1) * 1024)) := by
  have w0 : wc s i = i := by unfold wc; omega
  have w1 : wc s (i + 1) = i + 1 := by unfold wc; omega
  obtain ⟨a, b, c⟩ := G_spec hE i
  obtain ⟨h1, h2, h3, h4, h5⟩ := pos_spec hE i
  obtain ⟨a', b', c'⟩ := G_spec hE (i + 1)
  obtain ⟨h1', h2', h3', h4', h5'⟩ := pos_spec hE (i + 1)
  by_cases hc : i + 1 < W s (G s i)
  · have hg : G s (i + 1) = G s i := G_eq hE (by omega) (by omega)
    unfold Lo X T
    rw [hg, w0, w1]
    rw [w0] at b c
    omega
  · have hgt : G s i < G s (i + 1) := by
      by_contra h
      have := W_mono s (show G s (i + 1) ≤ G s i by omega)
      omega
    obtain ⟨k, hk⟩ : ∃ k, G s (i + 1) = k + 1 := ⟨G s (i + 1) - 1, by omega⟩
    have hF : Fi s (G s (i + 1)) = W s k := by rw [hk, Fi_succ]
    have hm := W_mono s (show G s i ≤ k by omega)
    have hS : S s (G s (i + 1)) = E s (G s i) := by
      rw [hk, S_succ]
      exact (E_gap s (show G s i ≤ k by omega) (by omega)).symm
    unfold Lo X T
    rw [hS] at h2' h5' ⊢
    rw [w0] at b c ⊢
    rw [w1] at b' c' ⊢
    omega

/-- Past the last work item nothing changes. -/
theorem stay {i : ℕ} (hi : W s 4 ≤ i + 1) : T s (i + 1) = T s i ∧ X s (i + 1) = X s i ∧ G s (i + 1) = G s i := by
  have hw : wc s (i + 1) = wc s i := by unfold wc; omega
  have hg : G s (i + 1) = G s i := by unfold G; rw [hw]
  unfold X T
  rw [hg, hw]
  exact ⟨rfl, rfl, rfl⟩

/-- The last position ends at the last row. -/
theorem last : X s 35 = 32768 ∧ T s 35 = 31 := by
  have ht := total_bounds hE
  have hw : wc s 35 = W s 4 - 1 := by unfold wc; omega
  obtain ⟨a, b, c⟩ := G_spec hE 35
  obtain ⟨h1, h2, h3, h4, h5⟩ := pos_spec hE 35
  have hm := W_mono s a
  have hEE : E s (G s 35) = 32768 := (E_gap s a (by omega)).trans hE
  unfold X T
  omega

end Full

end Cert.Sched
-- ==== Proof.WordNat.lean ====
/- The 32-bit words of small naturals: differences, the smaller and the larger of two. -/
module

public import Idealize.ShloMosaic.Lib.Routing.OpsPair
public import Idealize.ShloMosaic.Lib.Routing.OpsSearch

@[expose] public section

namespace Cert.WordNat

open Idealize.ShloMosaic Idealize.ShloMosaic.ValueIdx Idealize.ShloMosaic.WordCmp Idealize.ShloMosaic.Routing

theorem sub_word {a b : ℕ} (h : b ≤ a) (ha : a < 2 ^ 32) : BitVec.ofNat 32 a - BitVec.ofNat 32 b = BitVec.ofNat 32 (a - b) := by
  apply BitVec.eq_of_toNat_eq
  simp only [BitVec.toNat_sub, BitVec.toNat_ofNat]
  omega

theorem add_word (a b : ℕ) : BitVec.ofNat 32 a + BitVec.ofNat 32 b = BitVec.ofNat 32 (a + b) := (BitVec.ofNat_add a b).symm
theorem mul_word (a b : ℕ) : BitVec.ofNat 32 a * BitVec.ofNat 32 b = BitVec.ofNat 32 (a * b) := (BitVec.ofNat_mul a b).symm

theorem slt_word {a b : ℕ} (ha : a < 2 ^ 31) (hb : b < 2 ^ 31) : (BitVec.ofNat 32 a).slt (BitVec.ofNat 32 b) = decide (a < b) := by
  have h := cmpi_slt_ofNat (w := 32) (a := a) (b := b) ha hb
  unfold IntOp.cmpi at h
  generalize (BitVec.ofNat 32 a).slt (BitVec.ofNat 32 b) = p at h
  generalize decide (a < b) = q at h
  revert h; cases p <;> cases q <;> simp

theorem min_word {a b : ℕ} (ha : a < 2 ^ 31) (hb : b < 2 ^ 31) : IntOp.minsi (BitVec.ofNat 32 a) (BitVec.ofNat 32 b) = BitVec.ofNat 32 (min a b) := by
  unfold IntOp.minsi
  rw [slt_word ha hb]
  by_cases h : a < b
  · simp [h, Nat.min_eq_left h.le]
  · simp [h, Nat.min_eq_right (Nat.le_of_not_lt h)]

theorem max_word {a b : ℕ} (ha : a < 2 ^ 31) (hb : b < 2 ^ 31) : IntOp.maxsi (BitVec.ofNat 32 a) (BitVec.ofNat 32 b) = BitVec.ofNat 32 (max a b) := by
  unfold IntOp.maxsi
  rw [slt_word hb ha]
  by_cases h : b < a
  · simp [h, Nat.max_eq_left h.le]
  · simp [h, Nat.max_eq_right (Nat.le_of_not_lt h)]

/-- The sum down the columns of a widened mask counts the set bits of the column. -/
theorem count_rows {n m : ℕ} (hn : n < 2 ^ 32) (msk : IVec (shape2 n m) 1) (hw : 1 < 32) (h : (shape2 n m).ReducesTo [0] (shape1 m))
    (hu : 0 < shape0.numel) (i : Fin m) (Q : ℕ → Prop) [DecidablePred Q] (hQ : ∀ p : Fin n, msk (ix2 p i) = 1#1 ↔ Q p.val) :
    Host.reduce IntOp.addi (extui 32 msk hw) (constantI shape0 32 0#32) h hu (ix1 i) = BitVec.ofNat 32 (Nat.count Q n) := by
  apply BitVec.eq_of_toNat_eq
  rw [StableHlo.Predicate.toNat_reduce_count_rows hn msk hw h hu (ix1 i), BitVec.toNat_ofNat,
    Nat.mod_eq_of_lt (Nat.lt_of_le_of_lt (Nat.count_le _) hn), ← card_filter_fin n Q]
  refine congrArg Finset.card (Finset.filter_congr fun q _ => ?_)
  show msk (StableHlo.Predicate.ij q i) = 1#1 ↔ Q q.val
  rw [ij_eq_ix2]
  exact hQ q

end Cert.WordNat
-- ==== Proof.Kernel.Reads.lean ====
/- The buffers of the schedule, stretch by stretch: after each stretch of host operations, the words that the tables are
   built from, in closed form over the group sizes. -/
module

public import proofs.«01_k».proof.Proof.Kernel.Entry
public import proofs.«01_k».proof.Proof.Sched
public import proofs.«01_k».proof.Proof.WordNat
public import Idealize.ShloMosaic.Lib.StableHlo.RunRead

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Idealize.ShloMosaic.WordCmp Idealize.ShloMosaic.Routing Cert.WordNat Cert.Sched

/-- Core `c`'s buffers at the launch, and after each stretch. -/
def U0 (c : Dev nD) : Valuation τ sig (Elt F) := fun b => m (c, b)
def U1 (c : Dev nD) : Valuation τ sig (Elt F) := StableHlo.after hostOps0 (U0 m c)
def U2 (c : Dev nD) : Valuation τ sig (Elt F) := StableHlo.after hostOps0_1 (U1 m c)
def U3 (c : Dev nD) : Valuation τ sig (Elt F) := StableHlo.after hostOps0_2 (U2 m c)
def U4 (c : Dev nD) : Valuation τ sig (Elt F) := StableHlo.after hostOps0_3 (U3 m c)
def U5 (c : Dev nD) : Valuation τ sig (Elt F) := StableHlo.after hostOps0_4 (U4 m c)
def U6 (c : Dev nD) : Valuation τ sig (Elt F) := StableHlo.after hostOps0_5 (U5 m c)
def U7 (c : Dev nD) : Valuation τ sig (Elt F) := StableHlo.after hostOps0_6 (U6 m c)
def U8 (c : Dev nD) : Valuation τ sig (Elt F) := StableHlo.after hostOps0_7 (U7 m c)
def U9 (c : Dev nD) : Valuation τ sig (Elt F) := StableHlo.after hostOps0_8 (U8 m c)
def U10 (c : Dev nD) : Valuation τ sig (Elt F) := StableHlo.after hostOps0_9 (U9 m c)
def U11 (c : Dev nD) : Valuation τ sig (Elt F) := StableHlo.after hostOps0_10 (U10 m c)
def U12 (c : Dev nD) : Valuation τ sig (Elt F) := StableHlo.after hostOps0_11 (U11 m c)
def U13 (c : Dev nD) : Valuation τ sig (Elt F) := StableHlo.after hostOps0_12 (U12 m c)
def U14 (c : Dev nD) : Valuation τ sig (Elt F) := StableHlo.after hostOps0_13 (U13 m c)

theorem V_eq (c : Dev nD) (b : Ref sig .tc) : V m c b = U14 m c b := by
  unfold V stretches U14 U13 U12 U11 U10 U9 U8 U7 U6 U5 U4 U3 U2 U1 U0
  simp only [List.flatten_cons, List.flatten_nil, List.append_nil, StableHlo.after_append]

variable (c : Dev nD)

set_option maxHeartbeats 2000000

/-! ## The stretches, each as one term over the buffers before it -/

theorem v4_eq : (U1 m c main_v4 : IVec S5 32) = concatenate S5 0 [⟨S4, (U0 m c main_arg4 : IVec S4 32)⟩,
    ⟨S1, subi (broadcastInDim S1 ![] bcast_S_S1 (constantI S_ 32 32768#32)) (broadcastInDim S1 ![] bcast_S_S1
      (Host.reduce IntOp.addi (U0 m c main_arg4 : IVec S4 32) (constantI S_ 32 0#32) reducesTo_S4_S_d0 h_S_))⟩] concatenates_S4_S1_S5_d0 := by
  unfold U1; after_reads_simp
  refine congrArg₂ (fun (a : IVec S4 32) (b : IVec S1 32) => concatenate S5 0 [⟨S4, a⟩, ⟨S1, b⟩] concatenates_S4_S1_S5_d0) ?_ ?_ <;> after_reads_simp

theorem v5_eq : (U2 m c main_v5 : IVec S5 32) = Host.reduceWindow IntOp.addi ![5] ![1] ![4] ![0] (U1 m c main_v4 : IVec S5 32)
    (broadcastInDim S_ ![] bcast_S_S_ (constantI S_ 32 0#32)) reduceWindows_S5_S5_w5s1p4_0 h_S_ := by
  unfold U2; after_reads_simp; rfl

theorem v6_eq : (U3 m c main_v6 : IVec S5 32) = subi (U2 m c main_v5 : IVec S5 32) (U1 m c main_v4 : IVec S5 32) := by
  unfold U3 U2; after_reads_simp

theorem v7_eq : (U4 m c main_v7 : IVec S5 32) = pyDiv bcast_S_S5 (U3 m c main_v6 : IVec S5 32) (constantI S_ 32 1024#32) := by
  unfold U4 U3; after_reads_simp; rfl

theorem v9_eq : (U5 m c main_v9 : IVec S5 1) = cmpi .sgt (U1 m c main_v4 : IVec S5 32) (broadcastInDim S5 ![] bcast_S_S5 (constantI S_ 32 0#32)) := by
  unfold U5 U4 U3 U2; after_reads_simp

theorem v11_eq : (U5 m c main_v11 : IVec S5 32) = subi (U2 m c main_v5 : IVec S5 32) (broadcastInDim S5 ![] bcast_S_S5 (constantI S_ 32 1#32)) := by
  unfold U5 U4 U3; after_reads_simp

theorem v12_eq : (U6 m c main_v12 : IVec S5 32) = pyDiv bcast_S_S5 (U5 m c main_v11 : IVec S5 32) (constantI S_ 32 1024#32) := by
  unfold U6 U5; after_reads_simp; rfl

theorem v15_eq : (U7 m c main_v15 : IVec S5 32) = addi (subi (U6 m c main_v12 : IVec S5 32) (U4 m c main_v7 : IVec S5 32))
    (broadcastInDim S5 ![] bcast_S_S5 (constantI S_ 32 1#32)) := by
  unfold U7 U6 U5; after_reads_simp

theorem v16_eq : (U8 m c main_v16 : IVec S5 32) = select (U5 m c main_v9 : IVec S5 1) (U7 m c main_v15 : IVec S5 32)
    (broadcastInDim S5 ![] bcast_S_S5 (constantI S_ 32 0#32)) := by
  unfold U8 U7 U6; after_reads_simp; rfl

theorem v17_eq : (U9 m c main_v17 : IVec S5 32) = Host.reduceWindow IntOp.addi ![5] ![1] ![4] ![0] (U8 m c main_v16 : IVec S5 32)
    (broadcastInDim S_ ![] bcast_S_S_ (constantI S_ 32 0#32)) reduceWindows_S5_S5_w5s1p4_0 h_S_ := by
  unfold U9; after_reads_simp; rfl

theorem v18_eq : (U10 m c main_v18 : IVec S5 32) = subi (U9 m c main_v17 : IVec S5 32) (U8 m c main_v16 : IVec S5 32) := by
  unfold U10 U9; after_reads_simp

theorem v23_eq : (U10 m c main_v23 : IVec S36 1) = cmpi .slt (iotaInDim S36 32 0) (broadcastInDim S36 ![] bcast_S_S36
    (shapeCast S_ (extractStridedSlice S1 ![4] (U9 m c main_v17 : IVec S5 32) slices_S5_S1_4) shapeCasts_S1_S_)) := by
  unfold U10; after_reads_simp; rfl

theorem v28_eq : (U10 m c main_v28 : IVec S36 32) = minsi (iotaInDim S36 32 0) (broadcastInDim S36 ![] bcast_S_S36
    (subi (shapeCast S_ (extractStridedSlice S1 ![4] (U9 m c main_v17 : IVec S5 32) slices_S5_S1_4) shapeCasts_S1_S_) (constantI S_ 32 1#32))) := by
  unfold U10; after_reads_simp; rfl

theorem v29_eq : (U11 m c main_v29 : IVec S36 32) = Host.reduce IntOp.addi (extui 32 (cmpi .sle
      (broadcastInDim S5x36 ![0, 1] bcast_S5x1_S5x36_0_1 (broadcastInDim S5x1 ![0] bcast_S5_S5x1_0 (U9 m c main_v17 : IVec S5 32)))
      (broadcastInDim S5x36 ![0, 1] bcast_S1x36_S5x36_0_1 (broadcastInDim S1x36 ![1] bcast_S36_S1x36_1 (U10 m c main_v28 : IVec S36 32)))) natLt_1_32)
    (constantI S_ 32 0#32) reducesTo_S5x36_S36_d0 h_S_ := by
  unfold U11 U10; after_reads_simp; rfl

/-- A group number made an index, as the printed take wraps it. -/
abbrev wrapIx (g : IVec S36 32) : IVec S36x1 32 :=
  broadcastInDim S36x1 ![0] bcast_S36_S36x1_0 (select (cmpi .slt g (broadcastInDim S36 ![] bcast_S_S36 (constantI S_ 32 0#32)))
    (addi g (broadcastInDim S36 ![] bcast_S_S36 (constantI S_ 32 5#32))) g)

theorem v45_eq : (U12 m c main_v45 : IVec S36 32) = subi (addi (Host.gather gather_S5_S36x1_S36_n_0_n_n_0_1_1 (U4 m c main_v7 : IVec S5 32) (wrapIx (U11 m c main_v29)))
      (U10 m c main_v28 : IVec S36 32)) (Host.gather gather_S5_S36x1_S36_n_0_n_n_0_1_1 (U10 m c main_v18 : IVec S5 32) (wrapIx (U11 m c main_v29))) := by
  unfold U12 U11 U10 U9 U8 U7 U6 U5; after_reads_simp

theorem v55_eq : (U12 m c main_v55 : IVec S36 32) = maxsi (Host.gather gather_S5_S36x1_S36_n_0_n_n_0_1_1 (U3 m c main_v6 : IVec S5 32) (wrapIx (U11 m c main_v29)))
      (muli (U12 m c main_v45 : IVec S36 32) (broadcastInDim S36 ![] bcast_S_S36 (constantI S_ 32 1024#32))) := by
  unfold U12 U11 U10 U9 U8 U7 U6 U5 U4; after_reads_simp

theorem v67_eq : (U12 m c main_v67 : IVec S36 32) = minsi (Host.gather gather_S5_S36x1_S36_n_0_n_n_0_1_1 (U2 m c main_v5 : IVec S5 32) (wrapIx (U11 m c main_v29)))
      (muli (addi (U12 m c main_v45 : IVec S36 32) (broadcastInDim S36 ![] bcast_S_S36 (constantI S_ 32 1#32)))
        (broadcastInDim S36 ![] bcast_S_S36 (constantI S_ 32 1024#32))) := by
  unfold U12 U11 U10 U9 U8 U7 U6 U5 U4 U3; after_reads_simp

theorem v70_eq : (U12 m c main_v70 : IVec S36 1) = andi (U10 m c main_v23 : IVec S36 1)
    (cmpi .slt (U11 m c main_v29 : IVec S36 32) (broadcastInDim S36 ![] bcast_S_S36 (constantI S_ 32 4#32))) := by
  unfold U12 U11; after_reads_simp

theorem v71_eq : (U13 m c main_v71 : IVec S36 32) = select (U12 m c main_v70 : IVec S36 1) (U12 m c main_v67 : IVec S36 32) (U12 m c main_v55 : IVec S36 32) := by
  unfold U13; after_reads_simp; rfl

theorem v73_eq : (U14 m c main_v73 : IVec S36 32) = minsi (U11 m c main_v29 : IVec S36 32) (broadcastInDim S36 ![] bcast_S_S36 (constantI S_ 32 3#32)) := by
  unfold U14 U13 U12; after_reads_simp

theorem v74_eq : (U14 m c main_v74 : (⟨S32768x1, .f32⟩ : BufTy).Contents (Elt F)) = shapeCast S32768x1 (m (c, main_arg1)) shapeCasts_S32768_S32768x1 := by
  unfold U14 U13 U12 U11 U10 U9 U8 U7 U6 U5 U4 U3 U2 U1 U0; after_reads_simp; rfl

theorem v75_eq : (U14 m c main_v75 : (⟨S4x1x6144, .f32⟩ : BufTy).Contents (Elt F)) = shapeCast S4x1x6144 (m (c, main_arg3)) shapeCasts_S4x6144_S4x1x6144 := by
  unfold U14 U13 U12 U11 U10 U9 U8 U7 U6 U5 U4 U3 U2 U1 U0; after_reads_simp; rfl

theorem t45_eq : U14 m c main_v45 = U12 m c main_v45 := by
  unfold U14 U13; after_reads_simp
theorem t55_eq : U14 m c main_v55 = U12 m c main_v55 := by
  unfold U14 U13; after_reads_simp
theorem t71_eq : U14 m c main_v71 = U13 m c main_v71 := by
  unfold U14; after_reads_simp

theorem arg0_eq : U14 m c main_arg0 = m (c, main_arg0) := by
  unfold U14 U13 U12 U11 U10 U9 U8 U7 U6 U5 U4 U3 U2 U1 U0; after_reads_simp
theorem arg1_eq : U14 m c main_arg1 = m (c, main_arg1) := by
  unfold U14 U13 U12 U11 U10 U9 U8 U7 U6 U5 U4 U3 U2 U1 U0; after_reads_simp
theorem arg2_eq : U14 m c main_arg2 = m (c, main_arg2) := by
  unfold U14 U13 U12 U11 U10 U9 U8 U7 U6 U5 U4 U3 U2 U1 U0; after_reads_simp
theorem arg3_eq : U14 m c main_arg3 = m (c, main_arg3) := by
  unfold U14 U13 U12 U11 U10 U9 U8 U7 U6 U5 U4 U3 U2 U1 U0; after_reads_simp
theorem arg4_eq : U14 m c main_arg4 = m (c, main_arg4) := by
  unfold U14 U13 U12 U11 U10 U9 U8 U7 U6 U5 U4 U3 U2 U1 U0; after_reads_simp

end Cert.Kernel.Run
-- ==== Proof.Kernel.Body.lean ====
/- One run of the kernel's body: what it leaves in the output's staging buffer, as a function of the words it loads from the
   tables, the four input blocks and what the buffer held. -/
module

public import proofs.«01_k».proof.Proof.Kernel.Entry
public import Idealize.ShloMosaic.Lib.VecWindow

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word at a table's position, as the body loads it. -/
abbrev wordAt (c : Dev nD) (M : Memref sig .tc .smem S36 .i32) (off : Fin 1 → Nat) (h : ∀ a, off a + S1.size a ≤ S36.size a)
    (f : TbBuf (F := F) c M) : Elt F .i32 :=
  M.view.readAt (Elt F) (Rect.unit (s := S36) off S1.size h).toLoadRect f (Shape.Idx.first (numel1_S1.symm ▸ Nat.one_pos))

/-- What one run of the body leaves in the output's buffer: zeros on a tile's first visit, then the rows of the work item
    overwritten. -/
def stepW (i : grid0.Coords) (v1 v3 v5 v10 : Elt F .i32) (x0 : Vec F S1024x10752 .fp8e4m3) (x1 : Vec F S1024x1 .f32)
    (x2 : Vec F S1x10752x1024 .fp8e4m3) (x3 : Vec F S1x1x1024 .f32) (y : Vec F S1024x1024 .bf16) : Vec F S1024x1024 .bf16 :=
  if k0_cond2 v3 v5 = 1#1 then
    k0_pay2 v1 v3 v5 x0 x2 x1 x3 (if k0_cond1 i v1 v10 = 1#1 then k0_pay1 (F := F) else y)
  else if k0_cond1 i v1 v10 = 1#1 then k0_pay1 (F := F) else y

/-- Equal operands store equal blocks. -/
theorem pay2_congr {v1 v1' v3 v3' v5 v5' : Elt F .i32} {x x' : Vec F S1024x10752 .fp8e4m3} {w w' : Vec F S1x10752x1024 .fp8e4m3}
    {xs xs' : Vec F S1024x1 .f32} {ws ws' : Vec F S1x1x1024 .f32} {y y' : Vec F S1024x1024 .bf16}
    (h1 : v1 = v1') (h3 : v3 = v3') (h5 : v5 = v5') (hx : x = x') (hw : w = w') (hxs : xs = xs') (hws : ws = ws') (hy : y = y') :
    k0_pay2 v1 v3 v5 x w xs ws y = k0_pay2 v1' v3' v5' x' w' xs' ws' y' := by
  subst h1 h3 h5 hx hw hxs hws hy; rfl

set_option maxHeartbeats 2000000 in
/-- The body's triple on whole staging memrefs. -/
theorem body_run (c : Dev nD) (i : grid0.Coords) (arg6 : Memref sig .tc .vmem S1024x10752 .fp8e4m3) (harg6 : arg6.IsWhole)
    (arg7 : Memref sig .tc .vmem S1024x1 .f32) (harg7 : arg7.IsWhole) (arg8 : Memref sig .tc .vmem S1x10752x1024 .fp8e4m3) (harg8 : arg8.IsWhole)
    (arg9 : Memref sig .tc .vmem S1x1x1024 .f32) (harg9 : arg9.IsWhole) (arg10 : Memref sig .tc .vmem S1024x1024 .bf16) (harg10 : arg10.IsWhole)
    (x0 : Vec F S1024x10752 .fp8e4m3) (x1 : Vec F S1024x1 .f32) (x2 : Vec F S1x10752x1024 .fp8e4m3) (x3 : Vec F S1x1x1024 .f32)
    (y : Vec F S1024x1024 .bf16)
    (t0 : TbBuf (F := F) c tbM0) (t1 : TbBuf (F := F) c tbM1) (t2 : TbBuf (F := F) c tbM2) (t3 : TbBuf (F := F) c tbM3)
    (E : Set ℕ) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare y
        ∗ (tbPt c tbM0 t0 ∗ tbPt c tbM1 t1 ∗ tbPt c tbM2 t2 ∗ tbPt c tbM3 t3)
        ∗ (iprop(owns (c : Thread nD τ) arg6 fullShare x0 ∗ owns (c : Thread nD τ) arg7 fullShare x1 ∗ owns (c : Thread nD τ) arg8 fullShare x2
            ∗ owns (c : Thread nD τ) arg9 fullShare x3
            ∗ owns (c : Thread nD τ) arg10 fullShare
                (stepW i (wordAt c tbM0 (k0_off1 i) (k0_off1_inb i) t0) (wordAt c tbM2 (k0_off1 i) (k0_off1_inb i) t2)
                  (wordAt c tbM3 (k0_off1 i) (k0_off1_inb i) t3) (wordAt c tbM0 (k0_off2 i) (k0_off2_inb i) t0) x0 x1 x2 x3 y)
            ∗ (tbPt c tbM0 t0 ∗ tbPt c tbM1 t1 ∗ tbPt c tbM2 t2 ∗ tbPt c tbM3 t3)) -∗ K ⟨⟩))
      ⊢ wp frame (wpE (defs₀ (F := F)) Variants.none c none) E
          (cc0__gmm_kernel i tbM0 (Memref.isWhole_whole _) tbM1 (Memref.isWhole_whole _) tbM2 (Memref.isWhole_whole _) tbM3 (Memref.isWhole_whole _)
            arg6 harg6 arg7 harg7 arg8 harg8 arg9 harg9 arg10 harg10) K := by
  simp only [cc0__gmm_kernel_eq_skeleton]; unfold cc0__gmm_kernel_skel
  unfold owns
  unfold stepW
  by_cases h1 : k0_cond1 i (wordAt c tbM0 (k0_off1 i) (k0_off1_inb i) t0) (wordAt c tbM0 (k0_off2 i) (k0_off2_inb i) t0) = 1#1 <;>
  by_cases h2 : k0_cond2 (wordAt c tbM2 (k0_off1 i) (k0_off1_inb i) t2) (wordAt c tbM3 (k0_off1 i) (k0_off1_inb i) t3) = 1#1
  all_goals
    simp only [h1, h2, if_true, if_false]
    iintro ⟨⟨%f0, %hf0, H0⟩, ⟨%f1, %hf1, H1⟩, ⟨%f2, %hf2, H2⟩, ⟨%f3, %hf3, H3⟩, ⟨%f4, %hf4, H4⟩, ⟨HT0, HT1, HT2, HT3⟩, Hk⟩
    obtain rfl := harg6.eq_unread hf0
    obtain rfl := harg7.eq_unread hf1
    obtain rfl := harg8.eq_unread hf2
    obtain rfl := harg9.eq_unread hf3
    obtain rfl := harg10.eq_unread hf4
    sl_exec
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]; rotate_left
    · isplitl [HT0]; · iexact HT0
      isplitl [HT1]; · iexact HT1
      isplitl [HT2]; · iexact HT2
      iexact HT3
    iexists _; isplitr; swap; · iexact H4
    ipureintro
  · refine (View.read_writes_full _ _ _ _ _).trans (pay2_congr rfl rfl rfl ((View.readAt_full _ _ _).trans hf0)
      ((View.readAt_full _ _ _).trans hf2) ((View.readAt_full _ _ _).trans hf1) ((View.readAt_full _ _ _).trans hf3) ?_)
    exact View.readCov_full _ _ _ _ _
  · exact View.read_writes_full _ _ _ _ _
  · exact (View.read_writes_full _ _ _ _ _).trans (pay2_congr rfl rfl rfl ((View.readAt_full _ _ _).trans hf0)
      ((View.readAt_full _ _ _).trans hf2) ((View.readAt_full _ _ _).trans hf1) ((View.readAt_full _ _ _).trans hf3)
      ((View.readAt_full _ _ _).trans hf4))
  · exact hf4

end Cert.Kernel.Run

end
-- ==== Proof.Kernel.Words.lean ====
/- The grid's points as a column band and a work item, the body's two conditions read as comparisons, and the words the
   body loads as the tables' entries. -/
module

public import proofs.«01_k».proof.Proof.Kernel.Body

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem N_eq : grid0.N = 216 := by decide
theorem coords_eq : ∀ t : Fin grid0.N, (grid0.coords t 0).val = t.val / 36 ∧ (grid0.coords t 1).val = t.val % 36 := by decide +kernel

/-! ## The conditions -/

theorem cond1_iff (i : grid0.Coords) (v1 v10 : BitVec 32) : k0_cond1 i v1 v10 = 1#1 ↔ (i 1).val = 0 ∨ v10 ≠ v1 := by
  have hi : (i 1).val < 36 := (i 1).isLt
  have h0 : BitVec.ofNat 32 (i 1).val = 0#32 ↔ (i 1).val = 0 := by
    constructor
    · intro h; have := congrArg BitVec.toNat h; simp at this; omega
    · intro h; rw [h]
  unfold k0_cond1
  simp only [Scalar.cmpi, Scalar.ori, Scalar.extui, IntOp.cmpi]
  have hb : ∀ p q : Bool, BitVec.ofBool (BitVec.setWidth 32 (IntOp.ori (BitVec.ofBool p) (BitVec.ofBool q)) != 0#32) = 1#1 ↔ p = true ∨ q = true := by
    decide
  refine (hb _ _).trans ?_
  rw [beq_iff_eq, bne_iff_ne, h0]

theorem cond2_iff (v3 v5 : BitVec 32) : k0_cond2 v3 v5 = 1#1 ↔ v3.toInt < v5.toInt := by
  unfold k0_cond2
  simp only [Scalar.cmpi, Scalar.extui, IntOp.cmpi]
  by_cases h : v3.toInt < v5.toInt <;> simp [h, BitVec.slt]

/-! ## The words -/

/-- Entry `n` of table `k`. -/
def tw (k : Fin 4) (n : ℕ) : BitVec 32 :=
  match k with
  | 0 => tbl m 0 (fun a => if h : n < 36 then ⟨n, by fin_cases a; exact h⟩ else ⟨0, by fin_cases a; exact Nat.zero_lt_succ _⟩)
  | 1 => tbl m 1 (fun a => if h : n < 36 then ⟨n, by fin_cases a; exact h⟩ else ⟨0, by fin_cases a; exact Nat.zero_lt_succ _⟩)
  | 2 => tbl m 2 (fun a => if h : n < 36 then ⟨n, by fin_cases a; exact h⟩ else ⟨0, by fin_cases a; exact Nat.zero_lt_succ _⟩)
  | 3 => tbl m 3 (fun a => if h : n < 36 then ⟨n, by fin_cases a; exact h⟩ else ⟨0, by fin_cases a; exact Nat.zero_lt_succ _⟩)

theorem off1_val (i : grid0.Coords) (a : Fin 1) : k0_off1 i a = (i 1).val := by rw [k0_off1_eq]; fin_cases a; rfl
theorem off2_val : ∀ (i : grid0.Coords) (a : Fin 1), k0_off2 i a = (i 1).val - 1 := by decide +kernel

theorem word0_1 (c : Dev nD) (i : grid0.Coords) : wordAt c tbM0 (k0_off1 i) (k0_off1_inb i) (tbl m 0) = tw m 0 (i 1).val := by
  have hi : (i 1).val < 36 := (i 1).isLt
  refine congrArg (tbl m 0) (funext fun a => Fin.ext ?_)
  rw [dif_pos hi]; fin_cases a
  exact (Nat.add_zero _).trans (off1_val i 0)
theorem word0_2 (c : Dev nD) (i : grid0.Coords) : wordAt c tbM0 (k0_off2 i) (k0_off2_inb i) (tbl m 0) = tw m 0 ((i 1).val - 1) := by
  have hi : (i 1).val - 1 < 36 := by have : (i 1).val < 36 := (i 1).isLt; omega
  refine congrArg (tbl m 0) (funext fun a => Fin.ext ?_)
  rw [dif_pos hi]; fin_cases a
  exact (Nat.add_zero _).trans (off2_val i 0)
theorem word2_1 (c : Dev nD) (i : grid0.Coords) : wordAt c tbM2 (k0_off1 i) (k0_off1_inb i) (tbl m 2) = tw m 2 (i 1).val := by
  have hi : (i 1).val < 36 := (i 1).isLt
  refine congrArg (tbl m 2) (funext fun a => Fin.ext ?_)
  rw [dif_pos hi]; fin_cases a
  exact (Nat.add_zero _).trans (off1_val i 0)
theorem word3_1 (c : Dev nD) (i : grid0.Coords) : wordAt c tbM3 (k0_off1 i) (k0_off1_inb i) (tbl m 3) = tw m 3 (i 1).val := by
  have hi : (i 1).val < 36 := (i 1).isLt
  refine congrArg (tbl m 3) (funext fun a => Fin.ext ?_)
  rw [dif_pos hi]; fin_cases a
  exact (Nat.add_zero _).trans (off1_val i 0)

/-! ## The index maps -/

theorem at_tw0 (i : grid0.Coords) : (tbl m).at 0 (Rect.unit (s := S36) ![(Scalar.indexCast (BitVec.ofNat 32 (i 1).val)).toNat] S1.size (k0_off1_inb i)) numel1_S1
    = tw m 0 (i 1).val := word0_1 m 0 i
theorem at_tw1 (i : grid0.Coords) : (tbl m).at 1 (Rect.unit (s := S36) ![(Scalar.indexCast (BitVec.ofNat 32 (i 1).val)).toNat] S1.size (k0_off1_inb i)) numel1_S1
    = tw m 1 (i 1).val := by
  have hi : (i 1).val < 36 := (i 1).isLt
  refine congrArg (tbl m 1) (funext fun a => Fin.ext ?_)
  rw [dif_pos hi]; fin_cases a
  exact (Nat.add_zero _).trans (off1_val i 0)

theorem col_toNat (i : grid0.Coords) : (BitVec.ofNat 32 (i 0).val).toNat = (i 0).val := by
  have : (i 0).val < 6 := (i 0).isLt
  rw [BitVec.toNat_ofNat]; omega

theorem ix_0 (i : grid0.Coords) : ix0 (tbl m) 0 i = ![(tw m 0 (i 1).val).toNat, 0] :=
  congrArg (fun w : BitVec 32 => ![w.toNat, 0]) (at_tw0 m i)
theorem ix_1 (i : grid0.Coords) : ix0 (tbl m) 1 i = ![(tw m 0 (i 1).val).toNat, 0] :=
  congrArg (fun w : BitVec 32 => ![w.toNat, 0]) (at_tw0 m i)
theorem ix_2 (i : grid0.Coords) : ix0 (tbl m) 2 i = ![(tw m 1 (i 1).val).toNat, 0, (i 0).val] :=
  (congrArg (fun w : BitVec 32 => ![w.toNat, 0, (BitVec.ofNat 32 (i 0).val).toNat]) (at_tw1 m i)).trans (by rw [col_toNat])
theorem ix_3 (i : grid0.Coords) : ix0 (tbl m) 3 i = ![(tw m 1 (i 1).val).toNat, 0, (i 0).val] :=
  (congrArg (fun w : BitVec 32 => ![w.toNat, 0, (BitVec.ofNat 32 (i 0).val).toNat]) (at_tw1 m i)).trans (by rw [col_toNat])
theorem ix_4 (i : grid0.Coords) : ix0 (tbl m) 4 i = ![(tw m 0 (i 1).val).toNat, (i 0).val] :=
  (congrArg (fun w : BitVec 32 => ![w.toNat, (BitVec.ofNat 32 (i 0).val).toNat]) (at_tw0 m i)).trans (by rw [col_toNat])

/-- The printed idle condition of the output, as a function of the four words. -/
def idleB (i : grid0.Coords) (a b c d : BitVec 32) : Bool := !(k0_cond1 i a b == 1#1) && !(k0_cond2 c d == 1#1)

theorem idleB_congr (i : grid0.Coords) {a b c d a' b' c' d' : BitVec 32} (ha : a = a') (hb : b = b') (hc : c = c') (hd : d = d') :
    idleB i a b c d = idleB i a' b' c' d' := by subst ha hb hc hd; rfl

theorem atD_1 (i : grid0.Coords) : (tbl m).atD 0 (k0_off1 i) = tw m 0 (i 1).val := by
  have h : ∀ a, k0_off1 i a + 1 ≤ (pre0.ref 0).ty.shape.size a := fun a => by have := k0_off1_inb i a; fin_cases a; exact this
  exact (dif_pos h).trans ((congrArg (tbl m 0) (funext fun a => Fin.ext rfl)).trans (word0_1 m 0 i))
theorem atD_2 (i : grid0.Coords) : (tbl m).atD 0 (k0_off2 i) = tw m 0 ((i 1).val - 1) := by
  have h : ∀ a, k0_off2 i a + 1 ≤ (pre0.ref 0).ty.shape.size a := fun a => by have := k0_off2_inb i a; fin_cases a; exact this
  exact (dif_pos h).trans ((congrArg (tbl m 0) (funext fun a => Fin.ext rfl)).trans (word0_2 m 0 i))
theorem atD_3 (i : grid0.Coords) : (tbl m).atD 2 (k0_off1 i) = tw m 2 (i 1).val := by
  have h : ∀ a, k0_off1 i a + 1 ≤ (pre0.ref 2).ty.shape.size a := fun a => by have := k0_off1_inb i a; fin_cases a; exact this
  exact (dif_pos h).trans ((congrArg (tbl m 2) (funext fun a => Fin.ext rfl)).trans (word2_1 m 0 i))
theorem atD_4 (i : grid0.Coords) : (tbl m).atD 3 (k0_off1 i) = tw m 3 (i 1).val := by
  have h : ∀ a, k0_off1 i a + 1 ≤ (pre0.ref 3).ty.shape.size a := fun a => by have := k0_off1_inb i a; fin_cases a; exact this
  exact (dif_pos h).trans ((congrArg (tbl m 3) (funext fun a => Fin.ext rfl)).trans (word3_1 m 0 i))

theorem idle_at (a : (pcfg0 (F := F)).Adm) : (cfg0 a).idle = idle0 a.1 := by with_reducible rfl

theorem idle_of (a : (pcfg0 (F := F)).Adm) {pf : pre0.Contents (Elt F)} (h : a.1 = pf) : (cfg0 a).idle = idle0 pf := by
  subst h; exact idle_at a

theorem idle0_4 (pf : pre0.Contents (Elt F)) (i : grid0.Coords) :
    idle0 pf 4 i = idleB i (pf.atD 0 (k0_off1 i)) (pf.atD 0 (k0_off2 i)) (pf.atD 2 (k0_off1 i)) (pf.atD 3 (k0_off1 i)) := by
  unfold idleB; with_reducible rfl

theorem idle_M (hO : Ok m) : (cfgM m hO).idle = idle0 (tbl m) := idle_of (adm m hO) (Eq.refl (tbl m))

theorem idle4_eq (i : grid0.Coords) :
    idle0 (tbl m) 4 i = idleB i (tw m 0 (i 1).val) (tw m 0 ((i 1).val - 1)) (tw m 2 (i 1).val) (tw m 3 (i 1).val) :=
  (idle0_4 (tbl m) i).trans (idleB_congr i (atD_1 m i) (atD_2 m i) (atD_3 m i) (atD_4 m i))

/-- The output is idle at a point exactly where neither condition holds. -/
theorem idle4_iff (i : grid0.Coords) :
    idle0 (tbl m) 4 i = true ↔ ¬ ((i 1).val = 0 ∨ tw m 0 ((i 1).val - 1) ≠ tw m 0 (i 1).val)
      ∧ ¬ (tw m 2 (i 1).val).toInt < (tw m 3 (i 1).val).toInt := by
  rw [idle4_eq, ← cond1_iff, ← cond2_iff]
  unfold idleB
  simp only [Bool.and_eq_true, Bool.not_eq_true', beq_eq_false_iff_ne, ne_eq]

theorem idle4_M (hO : Ok m) (i : grid0.Coords) : (cfgM m hO).idle (4 : Fin 5) i = idle0 (tbl m) 4 i :=
  congrFun (congrFun (idle_M m hO) (4 : Fin 5)) i

end Cert.Kernel.Run

end
-- ==== Proof.Kernel.Tables.lean ====
/- The four tables in closed form: the words of the schedule's tiles, experts and row bounds. -/
module

public import proofs.«01_k».proof.Proof.Kernel.Reads
public import proofs.«01_k».proof.Proof.Kernel.Words

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Idealize.ShloMosaic.WordCmp Idealize.ShloMosaic.Routing Cert.WordNat Cert.Sched

variable (c : Dev nD) {s : ℕ → ℕ} (hs : ∀ e : Fin 4, (U0 m c main_arg4 : IVec S4 32) (ix1 e) = BitVec.ofNat 32 (s e.val)) (hE : E s 4 = 32768)
include hs hE

theorem E_le {e : ℕ} (he : e < 5) : E s e ≤ 32768 := hE ▸ E_mono s (by omega)
theorem s_le {e : ℕ} (he : e < 5) : s e ≤ E s e ∧ E s e ≤ 32768 := ⟨s_le_E s e, hE ▸ E_mono s (by omega)⟩

/-- The five sizes. -/
theorem at4 (e : Fin 5) : (U1 m c main_v4 : IVec S5 32) (ix1 e) = BitVec.ofNat 32 (s e.val) := by
  rw [v4_eq]
  by_cases h : e.val < 4
  · refine (concatenate_pair_apply_left (0 : Fin S5.rank) _ _ concatenates_S4_S1_S5_d0 (ix1 e) rfl (ix1 (⟨e.val, h⟩ : Fin 4)) ?_).trans (hs ⟨e.val, h⟩)
    intro b; match b with | ⟨0, _⟩ => rfl
  · have he : e.val = 4 := by have := e.isLt; omega
    refine (concatenate_pair_apply_right (0 : Fin S5.rank) _ _ concatenates_S4_S1_S5_d0 (ix1 e) rfl rfl (ix1 (0 : Fin 1)) ?_ ?_).trans ?_
    · intro b hb; match b with | ⟨0, _⟩ => exact absurd rfl hb
    · show 0 + 4 = e.val; omega
    · rw [subi_ap, bc0, bc0, constantI_at, reduce_sum _ s hs reducesTo_S4_S_d0 h_S_, he]
      have h3 : ((List.range 4).map s).sum = E s 3 := rfl
      have h4 := E_succ s 3
      norm_num at h4
      rw [h3, sub_word (by omega) (by norm_num)]
      congr 1; omega

/-- Where the groups end. -/
theorem at5 (e : Fin 5) : (U2 m c main_v5 : IVec S5 32) (ix1 e) = BitVec.ofNat 32 (E s e.val) := by
  rw [v5_eq]
  exact cumsum1 (Nm1 := 4) rfl _ s (at4 m c hs hE) _ (by rw [bc0]; rfl) reduceWindows_S5_S5_w5s1p4_0 h_S_ e

/-- Where the groups start. -/
theorem at6 (e : Fin 5) : (U3 m c main_v6 : IVec S5 32) (ix1 e) = BitVec.ofNat 32 (S s e.val) := by
  have h := s_le m c hs hE e.isLt
  rw [v6_eq, subi_ap, at4 m c hs hE, at5 m c hs hE, sub_word h.1 (by omega)]
  rfl

theorem at7 (e : Fin 5) : (U4 m c main_v7 : IVec S5 32) (ix1 e) = BitVec.ofNat 32 (S s e.val / 1024) := by
  have h := s_le m c hs hE e.isLt
  rw [v7_eq]
  exact pyDiv_ap bcast_S_S5 _ _ _ (at6 m c hs hE e) rfl (by unfold S; omega) (by norm_num) (by norm_num)

theorem at12 (e : Fin 5) (h0 : 0 < s e.val) : (U6 m c main_v12 : IVec S5 32) (ix1 e) = BitVec.ofNat 32 ((E s e.val - 1) / 1024) := by
  have h := s_le m c hs hE e.isLt
  rw [v12_eq]
  refine pyDiv_ap bcast_S_S5 _ _ _ ?_ rfl (by omega) (by norm_num) (by norm_num)
  rw [v11_eq, subi_ap, at5 m c hs hE, bc0, constantI_at, show (1#32 : BitVec 32) = BitVec.ofNat 32 1 from rfl, sub_word (by omega) (by omega)]

/-- How many work items each group takes. -/
theorem at16 (e : Fin 5) : (U8 m c main_v16 : IVec S5 32) (ix1 e) = BitVec.ofNat 32 (n s e.val) := by
  have h := s_le m c hs hE e.isLt
  rw [v16_eq, select_at, v9_eq, cmpi_at, bc0, constantI_at, at4 m c hs hE,
    cmpi_sgt_ofNat (w := 32) (b := 0) (by omega) (by norm_num), select_decide]
  unfold n
  by_cases h0 : 0 < s e.val
  · rw [if_pos h0, if_pos h0, v15_eq, addi_ap, subi_ap, at12 m c hs hE e h0, at7 m c hs hE, bc0, constantI_at,
      sub_word (by unfold S; omega) (by omega), show (1#32 : BitVec 32) = BitVec.ofNat 32 1 from rfl, add_word]
  · rw [if_neg h0, if_neg h0]

theorem at17 (e : Fin 5) : (U9 m c main_v17 : IVec S5 32) (ix1 e) = BitVec.ofNat 32 (W s e.val) := by
  rw [v17_eq]
  exact cumsum1 (Nm1 := 4) rfl _ (n s) (at16 m c hs hE) _ (by rw [bc0]; rfl) reduceWindows_S5_S5_w5s1p4_0 h_S_ e

theorem W_le {e : ℕ} (he : e < 5) : n s e ≤ W s e ∧ W s e ≤ 36 :=
  ⟨n_le_W s e, (W_mono s (by omega)).trans (total_bounds hE).2⟩

theorem at18 (e : Fin 5) : (U10 m c main_v18 : IVec S5 32) (ix1 e) = BitVec.ofNat 32 (Fi s e.val) := by
  have h := W_le m c hs hE e.isLt
  rw [v18_eq, subi_ap, at16 m c hs hE, at17 m c hs hE, sub_word h.1 (by omega)]
  rfl

theorem total_at : shapeCast S_ (extractStridedSlice S1 ![4] (U9 m c main_v17 : IVec S5 32) slices_S5_S1_4) shapeCasts_S1_S_ ValueIdx.ix0 = BitVec.ofNat 32 (W s 4) := by
  refine (shapeCast_apply _ shapeCasts_S1_S_ ValueIdx.ix0 (ix1 (0 : Fin 1)) ?_).trans ?_
  · exact Fin.val_eq_of_eq (Subsingleton.elim (α := Fin 1) _ _)
  · exact (slice1 4 _ slices_S5_S1_4 (0 : Fin 1) (by norm_num)).trans (at17 m c hs hE (4 : Fin 5))

theorem at23 (i : Fin 36) : (U10 m c main_v23 : IVec S36 1) (ix1 i) = BitVec.ofBool (decide (i.val < W s 4)) := by
  have ht := total_bounds hE
  rw [v23_eq, cmpi_at, bc0, total_at m c hs hE, iota1_ap, cmpi_slt_ofNat (w := 32) (by have := i.isLt; omega) (by omega)]

theorem at28 (i : Fin 36) : (U10 m c main_v28 : IVec S36 32) (ix1 i) = BitVec.ofNat 32 (wc s i.val) := by
  have ht := total_bounds hE
  rw [v28_eq]
  show IntOp.minsi _ _ = _
  rw [bc0, subi_ap, total_at m c hs hE, iota1_ap, constantI_at, show (1#32 : BitVec 32) = BitVec.ofNat 32 1 from rfl,
    sub_word (by omega) (by omega), min_word (by have := i.isLt; omega) (by omega)]
  rfl

/-- The group of each position. -/
theorem at29 (i : Fin 36) : (U11 m c main_v29 : IVec S36 32) (ix1 i) = BitVec.ofNat 32 (G s i.val) := by
  have hw := wc_lt hE i.val
  have ht := total_bounds hE
  rw [v29_eq]
  refine count_rows (by norm_num) _ natLt_1_32 reducesTo_S5x36_S36_d0 h_S_ i (fun e => W s e ≤ wc s i.val) fun p => ?_
  have h := W_le m c hs hE p.isLt
  rw [cmpi_at, bcRows, bcCols, at17 m c hs hE, at28 m c hs hE, cmpi_sle_ofNat_eq_one_iff (w := 32) (by omega) (by omega)]

/-- A table of five read at each position's group. -/
theorem take5 (x : IVec S5 32) (f : ℕ → ℕ) (hx : ∀ e : Fin 5, x (ix1 e) = BitVec.ofNat 32 (f e.val)) (i : Fin 36) :
    Host.gather gather_S5_S36x1_S36_n_0_n_n_0_1_1 x (wrapIx (U11 m c main_v29)) (ix1 i) = BitVec.ofNat 32 (f (G s i.val)) := by
  have hg := (G_spec hE i.val).1
  refine (take_ap gather_S5_S36x1_S36_n_0_n_n_0_1_1 rfl rfl rfl rfl x _ i (k := G s i.val) (by omega) (by omega) ?_).trans (hx ⟨G s i.val, by omega⟩)
  unfold wrapIx
  rw [bcCol, select_at, cmpi_at, bc0, constantI_at, at29 m c hs hE, wrap_of_lt _ _ (by rw [BitVec.toNat_ofNat]; omega)]

/-- The tiles. -/
theorem at45 (i : Fin 36) : (U12 m c main_v45 : IVec S36 32) (ix1 i) = BitVec.ofNat 32 (T s i.val) := by
  obtain ⟨a, b, d⟩ := G_spec hE i.val
  obtain ⟨h1, h2, h3, h4, h5⟩ := pos_spec hE i.val
  have hw := wc_lt hE i.val
  have ht := total_bounds hE
  rw [v45_eq, subi_ap, addi_ap, take5 m c hs hE _ (fun e => S s e / 1024) (at7 m c hs hE), take5 m c hs hE _ (Fi s) (at18 m c hs hE), at28 m c hs hE,
    add_word, sub_word (by omega) (by omega)]
  rfl

/-- The first rows. -/
theorem at55 (i : Fin 36) : (U12 m c main_v55 : IVec S36 32) (ix1 i) = BitVec.ofNat 32 (Lo s i.val) := by
  obtain ⟨h1, h2, h3, h4, h5⟩ := pos_spec hE i.val
  have hT := T_lt hE i.val
  rw [v55_eq]
  show IntOp.maxsi _ (_ * _) = _
  rw [take5 m c hs hE _ (S s) (at6 m c hs hE), at45 m c hs hE, bc0, constantI_at, show (1024#32 : BitVec 32) = BitVec.ofNat 32 1024 from rfl, mul_word,
    max_word (by omega) (by omega)]
  rfl

theorem at67 (i : Fin 36) : (U12 m c main_v67 : IVec S36 32) (ix1 i) = BitVec.ofNat 32 (X s i.val) := by
  obtain ⟨h1, h2, h3, h4, h5⟩ := pos_spec hE i.val
  have hT := T_lt hE i.val
  rw [v67_eq]
  show IntOp.minsi _ ((_ + _) * _) = _
  rw [take5 m c hs hE _ (E s) (at5 m c hs hE), at45 m c hs hE, bc0, bc0, constantI_at, constantI_at, show (1024#32 : BitVec 32) = BitVec.ofNat 32 1024 from rfl,
    show (1#32 : BitVec 32) = BitVec.ofNat 32 1 from rfl, add_word, mul_word, min_word (by omega) (by omega)]
  rfl

/-- The ends of the rows. -/
theorem at71 (i : Fin 36) : (U13 m c main_v71 : IVec S36 32) (ix1 i) = BitVec.ofNat 32 (Hi s i.val) := by
  have hg := (G_spec hE i.val).1
  rw [v71_eq, select_at, v70_eq, andi_at, at23 m c hs hE, cmpi_at, at29 m c hs hE, bc0, constantI_at, at67 m c hs hE, at55 m c hs hE,
    show (4#32 : BitVec 32) = BitVec.ofNat 32 4 from rfl, cmpi_slt_ofNat (w := 32) (by omega) (by norm_num)]
  unfold Hi
  by_cases h1 : i.val < W s 4 <;> by_cases h2 : G s i.val < 4 <;> simp only [h1, h2, decide_true, decide_false, and_true, and_false, and_self, if_true, if_false] <;> rfl

/-- The experts. -/
theorem at73 (i : Fin 36) : (U14 m c main_v73 : IVec S36 32) (ix1 i) = BitVec.ofNat 32 (min (G s i.val) 3) := by
  have hg := (G_spec hE i.val).1
  rw [v73_eq]
  show IntOp.minsi _ _ = _
  rw [at29 m c hs hE, bc0, constantI_at, show (3#32 : BitVec 32) = BitVec.ofNat 32 3 from rfl, min_word (by omega) (by norm_num)]

end Cert.Kernel.Run
-- ==== Proof.Kernel.Ok.lean ====
/- The tables' entries as words of the schedule, and with them the side condition of the region: every block lies inside its
   array, on whole words. -/
module

public import proofs.«01_k».proof.Proof.Kernel.Tables

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Idealize.ShloMosaic.WordCmp Idealize.ShloMosaic.Routing Cert.WordNat Cert.Sched

variable {s : ℕ → ℕ} (hs : ∀ e : Fin 4, (U0 m 0 main_arg4 : IVec S4 32) (ix1 e) = BitVec.ofNat 32 (s e.val)) (hE : E s 4 = 32768)

theorem tbl0_eq : (tbl m 0 : IVec S36 32) = (U12 m 0 main_v45 : IVec S36 32) := (V_eq m 0 main_v45).trans (t45_eq m 0)
theorem tbl1_eq : (tbl m 1 : IVec S36 32) = (U14 m 0 main_v73 : IVec S36 32) := V_eq m 0 main_v73
theorem tbl2_eq : (tbl m 2 : IVec S36 32) = (U12 m 0 main_v55 : IVec S36 32) := (V_eq m 0 main_v55).trans (t55_eq m 0)
theorem tbl3_eq : (tbl m 3 : IVec S36 32) = (U13 m 0 main_v71 : IVec S36 32) := (V_eq m 0 main_v71).trans (t71_eq m 0)

include hs hE in
theorem tw0 {n : ℕ} (hn : n < 36) : tw m 0 n = BitVec.ofNat 32 (T s n) := by
  refine Eq.trans ?_ (at45 m 0 hs hE ⟨n, hn⟩)
  rw [← tbl0_eq]
  refine congrArg (tbl m 0 : IVec S36 32) (funext fun a => ?_)
  rw [dif_pos hn]
  match a with | ⟨0, _⟩ => rfl

include hs hE in
theorem tw1 {n : ℕ} (hn : n < 36) : tw m 1 n = BitVec.ofNat 32 (min (G s n) 3) := by
  refine Eq.trans ?_ (at73 m 0 hs hE ⟨n, hn⟩)
  rw [← tbl1_eq]
  refine congrArg (tbl m 1 : IVec S36 32) (funext fun a => ?_)
  rw [dif_pos hn]
  match a with | ⟨0, _⟩ => rfl

include hs hE in
theorem tw2 {n : ℕ} (hn : n < 36) : tw m 2 n = BitVec.ofNat 32 (Lo s n) := by
  refine Eq.trans ?_ (at55 m 0 hs hE ⟨n, hn⟩)
  rw [← tbl2_eq]
  refine congrArg (tbl m 2 : IVec S36 32) (funext fun a => ?_)
  rw [dif_pos hn]
  match a with | ⟨0, _⟩ => rfl

include hs hE in
theorem tw3 {n : ℕ} (hn : n < 36) : tw m 3 n = BitVec.ofNat 32 (Hi s n) := by
  refine Eq.trans ?_ (at71 m 0 hs hE ⟨n, hn⟩)
  rw [← tbl3_eq]
  refine congrArg (tbl m 3 : IVec S36 32) (funext fun a => ?_)
  rw [dif_pos hn]
  match a with | ⟨0, _⟩ => rfl

include hs hE in
theorem tw0_nat {n : ℕ} (hn : n < 36) : (tw m 0 n).toNat = T s n := by
  have := T_lt hE n
  rw [tw0 m hs hE hn, BitVec.toNat_ofNat]; omega

include hs hE in
theorem tw1_nat {n : ℕ} (hn : n < 36) : (tw m 1 n).toNat = min (G s n) 3 := by
  rw [tw1 m hs hE hn, BitVec.toNat_ofNat]; omega

theorem words_rows {s : Shape} {p : ℕ} {size ix : Fin s.rank → ℕ} (h : ∀ a, (ix a + 1) * size a ≤ s.size a) (h2 : 2 ≤ s.rank)
    (hp : p ∣ size (s.rowAx h2)) : (Rect.block size ix h).WholeWords p :=
  .inl (.inr ⟨h2, rfl, .inl ⟨hp.mul_left _, hp⟩⟩)

include hs hE in
/-- The side condition holds of the schedule's tables. -/
theorem ok : Ok m := by
  have i1 : ∀ i : grid0.Coords, (i 1).val < 36 := fun i => (i 1).isLt
  have i0 : ∀ i : grid0.Coords, (i 0).val < 6 := fun i => (i 0).isLt
  refine ⟨fun i => ?_, fun i => ?_, fun i => ?_, fun i => ?_, fun i => ?_⟩
  · have ht := tw0_nat m hs hE (i1 i)
    have := T_lt hE (i 1).val
    have e : ∀ a, cc0_transform_0 k0_off1_inb numel1_S1 (tbl m) i a = _ := congrFun (ix_0 m i)
    refine ⟨fun a => ?_, .inr (words_rows _ (by decide) (by decide))⟩
    rw [e]
    match a with
    | ⟨0, _⟩ => show ((tw m 0 (i 1).val).toNat + 1) * 1024 ≤ 32768; omega
    | ⟨1, _⟩ => show (0 + 1) * 10752 ≤ 10752; omega
  · have ht := tw0_nat m hs hE (i1 i)
    have := T_lt hE (i 1).val
    have e : ∀ a, cc0_transform_1 k0_off1_inb numel1_S1 (tbl m) i a = _ := congrFun (ix_1 m i)
    refine ⟨fun a => ?_, .inl rfl⟩
    rw [e]
    match a with
    | ⟨0, _⟩ => show ((tw m 0 (i 1).val).toNat + 1) * 1024 ≤ 32768; omega
    | ⟨1, _⟩ => show (0 + 1) * 1 ≤ 1; omega
  · have ht := tw1_nat m hs hE (i1 i)
    have := i0 i
    have e : ∀ a, cc0_transform_2 k0_off1_inb numel1_S1 (tbl m) i a = _ := congrFun (ix_2 m i)
    refine ⟨fun a => ?_, .inr (words_rows _ (by decide) (by decide))⟩
    rw [e]
    match a with
    | ⟨0, _⟩ => show ((tw m 1 (i 1).val).toNat + 1) * 1 ≤ 4; omega
    | ⟨1, _⟩ => show (0 + 1) * 10752 ≤ 10752; omega
    | ⟨2, _⟩ => show ((i 0).val + 1) * 1024 ≤ 6144; omega
  · have ht := tw1_nat m hs hE (i1 i)
    have := i0 i
    have e : ∀ a, cc0_transform_3 k0_off1_inb numel1_S1 (tbl m) i a = _ := congrFun (ix_3 m i)
    refine ⟨fun a => ?_, .inl rfl⟩
    rw [e]
    match a with
    | ⟨0, _⟩ => show ((tw m 1 (i 1).val).toNat + 1) * 1 ≤ 4; omega
    | ⟨1, _⟩ => show (0 + 1) * 1 ≤ 1; omega
    | ⟨2, _⟩ => show ((i 0).val + 1) * 1024 ≤ 6144; omega
  · have ht := tw0_nat m hs hE (i1 i)
    have := T_lt hE (i 1).val
    have := i0 i
    have e : ∀ a, cc0_transform_4 k0_off1_inb numel1_S1 (tbl m) i a = _ := congrFun (ix_4 m i)
    refine ⟨fun a => ?_, .inr (words_rows _ (by decide) (by decide))⟩
    rw [e]
    match a with
    | ⟨0, _⟩ => show ((tw m 0 (i 1).val).toNat + 1) * 1024 ≤ 32768; omega
    | ⟨1, _⟩ => show ((i 0).val + 1) * 1024 ≤ 6144; omega

end Cert.Kernel.Run
-- ==== Proof.Kernel.Trace.lean ====
/- What the output's staging buffer holds after each grid point, by recursion over the points, and the facts that make the
   recursion the pipeline's: a tile's first visit forgets what the buffer held, a later visit finds what the visit before left. -/
module

public import proofs.«01_k».proof.Proof.Kernel.Words

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's step at point `i` over the tables' words. -/
def stepT (i : grid0.Coords) (x0 : Vec F S1024x10752 .fp8e4m3) (x1 : Vec F S1024x1 .f32)
    (x2 : Vec F S1x10752x1024 .fp8e4m3) (x3 : Vec F S1x1x1024 .f32) (y : Vec F S1024x1024 .bf16) : Vec F S1024x1024 .bf16 :=
  stepW i (tw m 0 (i 1).val) (tw m 2 (i 1).val) (tw m 3 (i 1).val) (tw m 0 ((i 1).val - 1)) x0 x1 x2 x3 y

theorem stepW_words (c : Dev nD) (i : grid0.Coords) (x0 : Vec F S1024x10752 .fp8e4m3) (x1 : Vec F S1024x1 .f32)
    (x2 : Vec F S1x10752x1024 .fp8e4m3) (x3 : Vec F S1x1x1024 .f32) (y : Vec F S1024x1024 .bf16) :
    stepW i (wordAt c tbM0 (k0_off1 i) (k0_off1_inb i) (tbl m 0)) (wordAt c tbM2 (k0_off1 i) (k0_off1_inb i) (tbl m 2))
      (wordAt c tbM3 (k0_off1 i) (k0_off1_inb i) (tbl m 3)) (wordAt c tbM0 (k0_off2 i) (k0_off2_inb i) (tbl m 0)) x0 x1 x2 x3 y
      = stepT m i x0 x1 x2 x3 y := by
  rw [word0_1, word0_2, word2_1, word3_1]; rfl

/-- Where a tile is first visited the step does not read the buffer. -/
theorem stepT_first (i : grid0.Coords) (h : (i 1).val = 0 ∨ tw m 0 ((i 1).val - 1) ≠ tw m 0 (i 1).val) (x0) (x1) (x2) (x3)
    (y y' : Vec F S1024x1024 .bf16) : stepT m i x0 x1 x2 x3 y = stepT m i x0 x1 x2 x3 y' := by
  have h1 := (cond1_iff i (tw m 0 (i 1).val) (tw m 0 ((i 1).val - 1))).mpr h
  unfold stepT stepW
  rw [if_pos h1, if_pos h1]

/-- Where the output is idle the step leaves the buffer. -/
theorem stepT_idle (i : grid0.Coords) (h : idle0 (tbl m) 4 i = true) (x0) (x1) (x2) (x3) (y : Vec F S1024x1024 .bf16) :
    stepT m i x0 x1 x2 x3 y = y := by
  obtain ⟨h1, h2⟩ := (idle4_iff m i).mp h
  rw [← cond1_iff] at h1; rw [← cond2_iff] at h2
  unfold stepT stepW
  rw [if_neg h2, if_neg h1]

/-- The step at point `t` over the blocks there. -/
def stepP (hO : Ok m) (c : Dev nD) (t : Fin (cfgM m hO).N) (y : Vec F S1024x1024 .bf16) : Vec F S1024x1024 .bf16 :=
  stepT m (grid0.coords t) (iblk m hO c 0 t) (iblk m hO c 1 t) (iblk m hO c 2 t) (iblk m hO c 3 t) y

/-- What the output's staging buffer holds after point `n`. -/
def outN (hO : Ok m) (c : Dev nD) : ℕ → Vec F S1024x1024 .bf16
  | 0 => stepP m hO c ⟨0, (by decide : 0 < grid0.N)⟩ (k0_pay1 (F := F))
  | n + 1 => if h : n + 1 < grid0.N then stepP m hO c ⟨n + 1, h⟩ (outN hO c n) else outN hO c n

theorem outN_succ (hO : Ok m) (c : Dev nD) (n : ℕ) (h : n + 1 < grid0.N) :
    outN m hO c (n + 1) = stepP m hO c ⟨n + 1, h⟩ (outN m hO c n) := by
  rw [outN, dif_pos h]

/-- A point that is not its tile's first is not the first of its column band, and its tile is the one before's. -/
theorem not_first {n : ℕ} (h : n + 1 < grid0.N)
    (h1 : ¬ ((grid0.coords ⟨n + 1, h⟩ 1).val = 0 ∨ tw m 0 ((grid0.coords ⟨n + 1, h⟩ 1).val - 1) ≠ tw m 0 (grid0.coords ⟨n + 1, h⟩ 1).val)) :
    ix0 (tbl m) 4 (grid0.coords ⟨n + 1, h⟩) = ix0 (tbl m) 4 (grid0.coords ⟨n, Nat.lt_of_succ_lt h⟩) := by
  have e := coords_eq ⟨n + 1, h⟩
  have e' := coords_eq ⟨n, Nat.lt_of_succ_lt h⟩
  simp only at e e'
  rw [not_or, not_ne_iff] at h1
  have a : (grid0.coords ⟨n, Nat.lt_of_succ_lt h⟩ 1).val = (grid0.coords ⟨n + 1, h⟩ 1).val - 1 := by omega
  have b : (grid0.coords ⟨n, Nat.lt_of_succ_lt h⟩ 0).val = (grid0.coords ⟨n + 1, h⟩ 0).val := by omega
  rw [ix_4, ix_4, a, b, h1.2]

theorem flush4_of (hO : Ok m) (n : ℕ) (h : n + 1 < grid0.N)
    (he : ix0 (tbl m) 4 (grid0.coords ⟨n + 1, h⟩) = ix0 (tbl m) 4 (grid0.coords ⟨n, Nat.lt_of_succ_lt h⟩)) :
    ((cfgM m hO).win (4 : Fin 5)).flush ⟨n, Nat.lt_of_succ_lt h⟩ = false := by
  rw [Pipeline.Window.flush_eq_flushOf]
  unfold Pipeline.Window.flushOf
  rw [Bool.and_eq_false_iff]; right
  rw [Bool.or_eq_false_iff]
  refine ⟨decide_eq_false (fun e => ?_), decide_eq_false ?_⟩
  · have : n + 1 = grid0.N := e
    omega
  · rintro ⟨h', hne⟩
    exact hne he

/-- The buffer is not fresh at a point that is not its tile's first. -/
theorem fresh4 (hO : Ok m) : ∀ (n : ℕ) (h : n < grid0.N),
    ¬ ((grid0.coords ⟨n, h⟩ 1).val = 0 ∨ tw m 0 ((grid0.coords ⟨n, h⟩ 1).val - 1) ≠ tw m 0 (grid0.coords ⟨n, h⟩ 1).val) →
    (cfgM m hO).fresh (4 : Fin 5) n = false
  | 0, h, h1 => absurd (Or.inl ((coords_eq ⟨0, h⟩).2.trans (Nat.zero_mod _))) h1
  | n + 1, h, h1 => by
    rw [Pipeline.Cfg.fresh_succ (cfgM m hO) (4 : Fin 5) n (Nat.lt_of_succ_lt h), flush4_of m hO n h (not_first m h h1), Bool.false_or]
    cases hi : (cfgM m hO).idle (4 : Fin 5) ((cfgM m hO).grid.coords ⟨n, Nat.lt_of_succ_lt h⟩)
    · rfl
    · rw [Bool.true_and]
      exact fresh4 hO n (Nat.lt_of_succ_lt h) (((idle4_iff m _).mp ((idle4_M m hO _).symm.trans hi)).1)

end Cert.Kernel.Run

end
-- ==== Proof.Kernel.Run.lean ====
/- The region's run: the proof data over the recursion, the body obligation at a generic point, the launch. -/
module

public import proofs.«01_k».proof.Proof.Kernel.Trace

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`: the arrays as the region finds them; after the body at point `t` each
    input's buffer at its block, the output's at the recursion's value. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outN m hO c t.val
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after (0 : Fin 5) t = iblk m hO c 0 t := by dsimp only [dats]; try rfl
theorem after_1 (hO : Ok m) (c : Dev nD) (t : Fin (cfgM m hO).N) : (dats m hO 0 c).after (1 : Fin 5) t = iblk m hO c 1 t := by dsimp only [dats]; try rfl
theorem after_2 (hO : Ok m) (c : Dev nD) (t : Fin (cfgM m hO).N) : (dats m hO 0 c).after (2 : Fin 5) t = iblk m hO c 2 t := by dsimp only [dats]; try rfl
theorem after_3 (hO : Ok m) (c : Dev nD) (t : Fin (cfgM m hO).N) : (dats m hO 0 c).after (3 : Fin 5) t = iblk m hO c 3 t := by dsimp only [dats]; try rfl
theorem after_4 (hO : Ok m) (c : Dev nD) (t : Fin (cfgM m hO).N) : (dats m hO 0 c).after (4 : Fin 5) t = outN m hO c t.val := by dsimp only [dats]; try rfl

theorem before_0 (hO : Ok m) (c : Dev nD) (t : Fin (cfgM m hO).N) (d) : (dats m hO 0 c).before (0 : Fin 5) t d = iblk m hO c 0 t :=
  before0_of m hO (dats m hO 0 c) (A_eq m hO c 0) (after_0 m hO c) t d
theorem before_1 (hO : Ok m) (c : Dev nD) (t : Fin (cfgM m hO).N) (d) : (dats m hO 0 c).before (1 : Fin 5) t d = iblk m hO c 1 t :=
  before1_of m hO (dats m hO 0 c) (A_eq m hO c 1) (after_1 m hO c) t d
theorem before_2 (hO : Ok m) (c : Dev nD) (t : Fin (cfgM m hO).N) (d) : (dats m hO 0 c).before (2 : Fin 5) t d = iblk m hO c 2 t :=
  before2_of m hO (dats m hO 0 c) (A_eq m hO c 2) (after_2 m hO c) t d
theorem before_3 (hO : Ok m) (c : Dev nD) (t : Fin (cfgM m hO).N) (d) : (dats m hO 0 c).before (3 : Fin 5) t d = iblk m hO c 3 t :=
  before3_of m hO (dats m hO 0 c) (A_eq m hO c 3) (after_3 m hO c) t d

/-- Where the output is idle the recursion carries the point before's contents. -/
theorem outN_idle (hO : Ok m) (c : Dev nD) (n : ℕ) (h : n + 1 < grid0.N)
    (hi : (cfgM m hO).idle (4 : Fin 5) ((cfgM m hO).grid.coords ⟨n + 1, h⟩) = true) : outN m hO c (n + 1) = outN m hO c n := by
  rw [outN_succ m hO c n h]
  exact stepT_idle m _ ((idle4_M m hO _).symm.trans hi) _ _ _ _ _

/-- What the body finds in the output's buffer at a point that is not fresh: what the recursion says of the point before. -/
theorem before_4 (hO : Ok m) (c : Dev nD) (t : Fin (cfgM m hO).N) (d) (hf : (cfgM m hO).fresh (4 : Fin 5) t.val = false) :
    (dats m hO 0 c).before (4 : Fin 5) t d = outN m hO c (t.val - 1) := by
  rw [Pipeline.Dat.before_out_traj (dats m hO 0 c) (4 : Fin 5) rfl (fun _ _ => rfl) ?_ t.val t rfl d, hf]
  · exact after_4 m hO c _
  · rintro ⟨n, hn⟩ h0 hi _
    obtain ⟨k, rfl⟩ := Nat.exists_eq_succ_of_ne_zero h0
    rw [after_4, after_4]
    exact outN_idle m hO c k hn hi

/-- The step over what the body finds is the recursion's value. -/
theorem step_before (hO : Ok m) (c : Dev nD) : ∀ (t : Fin (cfgM m hO).N) (d),
    stepP m hO c t ((dats m hO 0 c).before (4 : Fin 5) t d) = outN m hO c t.val
  | ⟨0, h⟩, d => by
    rw [outN]
    exact stepT_first m _ (Or.inl ((coords_eq ⟨0, h⟩).2.trans (Nat.zero_mod _))) _ _ _ _ _ _
  | ⟨n + 1, h⟩, d => by
    rw [outN_succ m hO c n h]
    by_cases h1 : ((grid0.coords ⟨n + 1, h⟩ 1).val = 0 ∨ tw m 0 ((grid0.coords ⟨n + 1, h⟩ 1).val - 1) ≠ tw m 0 (grid0.coords ⟨n + 1, h⟩ 1).val)
    · exact stepT_first m _ h1 _ _ _ _ _ _
    · rw [before_4 m hO c ⟨n + 1, h⟩ d (fresh4 m hO (n + 1) h h1)]
      rfl

/-! ## The body obligation -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before (0 : Fin 5) t d))
    ∗ (∃ d, owns (c : Thread nD τ) (ms1 m hO t) fullShare ((dats m hO 0 c).before (1 : Fin 5) t d))
    ∗ (∃ d, owns (c : Thread nD τ) (ms2 m hO t) fullShare ((dats m hO 0 c).before (2 : Fin 5) t d))
    ∗ (∃ d, owns (c : Thread nD τ) (ms3 m hO t) fullShare ((dats m hO 0 c).before (3 : Fin 5) t d))
    ∗ (∃ d, owns (c : Thread nD τ) (ms4 m hO t) fullShare ((dats m hO 0 c).before (4 : Fin 5) t d)))

/-- how it leaves the output's buffer, -/
def leaves4 (hO : Ok m) (c : Dev nD) (t : Fin (cfgM m hO).N) : sProp 𝕄 :=
  match (cfgM m hO).idle (4 : Fin 5) ((cfgM m hO).grid.coords t) with
  | true =>
    match ((cfgM m hO).win (4 : Fin 5)).flush t with
    | false => iprop(∃ d, owns (c : Thread nD τ) (ms4 m hO t) fullShare ((dats m hO 0 c).before (4 : Fin 5) t d))
    | true => owns (c : Thread nD τ) (ms4 m hO t) fullShare ((dats m hO 0 c).after (4 : Fin 5) t)
  | false => owns (c : Thread nD τ) (ms4 m hO t) fullShare ((dats m hO 0 c).after (4 : Fin 5) t)

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after (0 : Fin 5) t)
    ∗ owns (c : Thread nD τ) (ms1 m hO t) fullShare ((dats m hO 0 c).after (1 : Fin 5) t)
    ∗ owns (c : Thread nD τ) (ms2 m hO t) fullShare ((dats m hO 0 c).after (2 : Fin 5) t)
    ∗ owns (c : Thread nD τ) (ms3 m hO t) fullShare ((dats m hO 0 c).after (3 : Fin 5) t)
    ∗ leaves4 m hO c t)

/-- The step's result is the buffer as the obligation wants it left. -/
theorem leaves4_of (hO : Ok m) (c : Dev nD) (t : Fin (cfgM m hO).N) (d) :
    (owns (c : Thread nD τ) (ms4 m hO t) fullShare (stepP m hO c t ((dats m hO 0 c).before (4 : Fin 5) t d)) : sProp 𝕄) ⊢ leaves4 m hO c t := by
  unfold leaves4
  cases hi : (cfgM m hO).idle (4 : Fin 5) ((cfgM m hO).grid.coords t)
  · dsimp only
    rw [after_4, step_before]
  · cases hf : ((cfgM m hO).win (4 : Fin 5)).flush t
    · dsimp only
      rw [show stepP m hO c t ((dats m hO 0 c).before (4 : Fin 5) t d) = (dats m hO 0 c).before (4 : Fin 5) t d from
        stepT_idle m _ ((idle4_M m hO _).symm.trans hi) _ _ _ _ _]
      iintro H; iexists d; iexact H
    · dsimp only
      rw [after_4, step_before]

/-- `leaves4_of` over the words as the body's triple spells them. -/
theorem leaves4_words (hO : Ok m) (c : Dev nD) (t : Fin (cfgM m hO).N) (d) :
    (owns (c : Thread nD τ) (ms4 m hO t) fullShare
      (stepW (grid0.coords t) (wordAt c tbM0 (k0_off1 (grid0.coords t)) (k0_off1_inb (grid0.coords t)) (tbl m 0))
        (wordAt c tbM2 (k0_off1 (grid0.coords t)) (k0_off1_inb (grid0.coords t)) (tbl m 2))
        (wordAt c tbM3 (k0_off1 (grid0.coords t)) (k0_off1_inb (grid0.coords t)) (tbl m 3))
        (wordAt c tbM0 (k0_off2 (grid0.coords t)) (k0_off2_inb (grid0.coords t)) (tbl m 0))
        (iblk m hO c 0 t) (iblk m hO c 1 t) (iblk m hO c 2 t) (iblk m hO c 3 t) ((dats m hO 0 c).before (4 : Fin 5) t d)) : sProp 𝕄)
      ⊢ leaves4 m hO c t :=
  (Entails.of_eq (congrArg (fun x => owns (c : Thread nD τ) (ms4 m hO t) fullShare x)
    (stepW_words m c (grid0.coords t) (iblk m hO c 0 t) (iblk m hO c 1 t) (iblk m hO c 2 t) (iblk m hO c 3 t) _))).trans
    (leaves4_of m hO c t d)

set_option maxHeartbeats 1000000 in
/-- The body at any point. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before_0, before_1, before_2, before_3]
  rw [show (dats m hO 0 c).Φ t.succ = (dats m hO 0 c).Φ t.castSucc from rfl,
    show (dats m hO 0 c).owesAt () t.succ = (dats m hO 0 c).owesAt () t.castSucc from rfl,
    after_0, after_1, after_2, after_3]
  rw [show (dats m hO 0 c).Φ t.castSucc = iprop(Pipeline.ΦA spec0 c ∗ Pipeline.ΦT pre0 (tbl m) c) from rfl, PhiT_eq]
  iintro ⟨⟨HΦ, HT⟩, Ho, ⟨%d0, H0⟩, ⟨%d1, H1⟩, ⟨%d2, H2⟩, ⟨%d3, H3⟩, ⟨%d4, H4⟩⟩
  iapply (body_run c (grid0.coords t) _ _ _ _ _ _ _ _ _ _ (iblk m hO c 0 t) (iblk m hO c 1 t) (iblk m hO c 2 t) (iblk m hO c 3 t)
    ((dats m hO 0 c).before (4 : Fin 5) t d4) (tbl m 0) (tbl m 1) (tbl m 2) (tbl m 3) Set.univ _)
  isplitl [H0]; · iexact H0
  isplitl [H1]; · iexact H1
  isplitl [H2]; · iexact H2
  isplitl [H3]; · iexact H3
  isplitl [H4]; · iexact H4
  isplitl [HT]; · iexact HT
  iintro ⟨H0, H1, H2, H3, H4, HT⟩
  isplitl [HΦ HT]
  · isplitl [HΦ]
    · iexact HΦ
    iexact HT
  isplitl [Ho]; · iexact Ho
  isplitl [H0]; · iexact H0
  isplitl [H1]; · iexact H1
  isplitl [H2]; · iexact H2
  isplitl [H3]; · iexact H3
  ihave H4' := (leaves4_words m hO c t d4) $$ H4
  iexact H4'

/-- The library's body obligation, at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The launch -/

variable (ρ : Dev nD → PrngReg)

set_option backward.isDefEq.respectTransparency.types false in
/-- Every weakly fair execution terminates with the windows' arrays at what the write-backs leave, every other unscoped
    buffer at what the region found, and every counter at zero. -/
theorem run_main_quiescent (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

end Cert.Kernel.Run

end
-- ==== Proof.Pre.lean ====
/- What the precondition says of the group sizes: four naturals that leave a fifth, the rows past the last group. -/
module

public import proofs.«01_k».proof.Pre_sizes_fit
public import proofs.«01_k».proof.Proof.Sched
public import proofs.«01_k».proof.Proof.WordNat
public import Idealize.ShloMosaic.Lib.ReduceAll
public import Idealize.ShloMosaic.Lib.Affine

@[expose] public section

namespace Cert.Pre

open Idealize.ShloMosaic Idealize.ShloMosaic.ValueIdx Idealize.ShloMosaic.WordCmp Idealize.ShloMosaic.Routing Cert.WordNat Cert.Sched

/-- A word between 0 and 32768 as an integer is the word of such a natural. -/
theorem word_range {x : BitVec 32} (h0 : (0#32).toInt ≤ x.toInt) (h1 : x.toInt ≤ (32768#32).toInt) : x.toNat ≤ 32768 := by
  have e0 : (0#32 : BitVec 32).toInt = 0 := by decide
  have e1 : (32768#32 : BitVec 32).toInt = 32768 := by decide
  rw [e0] at h0
  rw [e1] at h1
  have hc := BitVec.toInt_eq_toNat_cond x
  have := x.isLt
  split at hc <;> omega

/-- The sizes as naturals. -/
def sizes (a : IVec (shape1 4) 32) (e : ℕ) : ℕ :=
  if h : e < 4 then (a (ix1 ⟨e, h⟩)).toNat
  else 32768 - (((List.range 4).map fun k => if h : k < 4 then (a (ix1 ⟨k, h⟩)).toNat else 0).sum)

theorem sizes_at (a : IVec (shape1 4) 32) (e : Fin 4) : a (ix1 e) = BitVec.ofNat 32 (sizes a e.val) := by
  unfold sizes
  rw [dif_pos e.isLt, BitVec.ofNat_toNat, BitVec.setWidth_eq]

variable [Cert.Pre_sizes_fit.Facts] {F : FTy → Type} [FloatOps F]

theorem sizes_full (x0 : FVec F Pre_sizes_fit.S32768x10752 .fp8e4m3) (x1 : FVec F Pre_sizes_fit.S32768 .f32) (x2 : FVec F Pre_sizes_fit.S4x10752x6144 .fp8e4m3)
    (x3 : FVec F Pre_sizes_fit.S4x6144 .f32) (a : IVec Pre_sizes_fit.S4 32) (h : Pre_sizes_fit.fn x0 x1 x2 x3 a = fun _ => 1#1) : E (sizes a) 4 = 32768 := by
  have h0 := congrFun h ix0
  unfold Pre_sizes_fit.fn at h0
  rw [andi_at] at h0
  obtain ⟨hall, hsum⟩ := IntOp.andi_eq_one.1 h0
  have hb : ∀ e : Fin 4, (a (ix1 e)).toNat ≤ 32768 := by
    intro e
    have he := Host.reduce_andi_all _ _ Pre_sizes_fit.Facts.reducesTo_S4_S_d0 Pre_sizes_fit.Facts.h_S_ ix0 hall (ix1 e)
    rw [andi_at] at he
    obtain ⟨h1, h2⟩ := IntOp.andi_eq_one.1 he
    rw [cmpi_at, bc0] at h1 h2
    exact word_range (IntOp.cmpi_sge.1 h1) (IntOp.cmpi_sle.1 h2)
  have hr := reduce_sum a (sizes a) (sizes_at a) Pre_sizes_fit.Facts.reducesTo_S4_S_d0 Pre_sizes_fit.Facts.h_S_
  have h3 : ((List.range 4).map (sizes a)).sum = E (sizes a) 3 := rfl
  have b0 : sizes a 0 ≤ 32768 := hb 0
  have b1 : sizes a 1 ≤ 32768 := hb 1
  have b2 : sizes a 2 ≤ 32768 := hb 2
  have b3 : sizes a 3 ≤ 32768 := hb 3
  have e1 := E_succ (sizes a) 0
  have e2 := E_succ (sizes a) 1
  have e3 := E_succ (sizes a) 2
  have e4 := E_succ (sizes a) 3
  have e0 := E_zero (sizes a)
  norm_num at e1 e2 e3 e4
  have hle : E (sizes a) 3 ≤ 32768 := by
    rw [cmpi_at] at hsum
    dsimp only at hsum
    rw [hr, h3, constantI_at, show (32768#32 : BitVec 32) = BitVec.ofNat 32 32768 from rfl,
      cmpi_sle_ofNat_eq_one_iff (w := 32) (by omega) (by norm_num)] at hsum
    exact hsum
  have h4 : sizes a 4 = 32768 - E (sizes a) 3 := rfl
  omega

end Cert.Pre
-- ==== Proof.Kernel.Frame.lean ====
/- The run of the whole program, read at its arguments and its result: the arguments end unchanged, the result is what the
   write-backs of the output window leave, and every counter is at zero. -/
module

public import proofs.«01_k».proof.Proof.Kernel.Ok
public import proofs.«01_k».proof.Proof.Kernel.Run
public import proofs.«01_k».proof.Proof.Pre

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Idealize.ShloMosaic.Routing Cert.Sched

theorem run_result (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v76) = (dats m hO 0 c).arrAt (4 : Fin 5) (cfgM m hO).N)
      ∧ r.2.sem = fun _ => 0) :=
  (θ_run defs _ _).mono (fun _ h => ⟨fun c => ⟨((h.1 c).1 (0 : Fin 5)).trans (((dats m hO 0 c).arrAt_in (0 : Fin 5) rfl _).trans ((A_eq m hO c (0 : Fin 5)).trans ((V_eq m c main_arg0).trans (arg0_eq m c)))),
      ((h.1 c).2 main_arg1 (Pipeline.mem_restRefs_of main_arg1 (by decide) (fun w => (by decide : ∀ w : Fin 5, (spec0 w).arr.view.ref ≠ main_arg1) w))).trans ((V_eq m c main_arg1).trans (arg1_eq m c)),
      ((h.1 c).1 (2 : Fin 5)).trans (((dats m hO 0 c).arrAt_in (2 : Fin 5) rfl _).trans ((A_eq m hO c (2 : Fin 5)).trans ((V_eq m c main_arg2).trans (arg2_eq m c)))),
      ((h.1 c).2 main_arg3 (Pipeline.mem_restRefs_of main_arg3 (by decide) (fun w => (by decide : ∀ w : Fin 5, (spec0 w).arr.view.ref ≠ main_arg3) w))).trans ((V_eq m c main_arg3).trans (arg3_eq m c)),
      ((h.1 c).2 main_arg4 (Pipeline.mem_restRefs_of main_arg4 (by decide) (fun w => (by decide : ∀ w : Fin 5, (spec0 w).arr.view.ref ≠ main_arg4) w))).trans ((V_eq m c main_arg4).trans (arg4_eq m c)),
      (h.1 c).1 (4 : Fin 5)⟩, h.2⟩) (run_main_quiescent m ρ hO)

/-- The arguments end unchanged and every counter is at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1, (h.1 c).2.1, (h.1 c).2.2.1, (h.1 c).2.2.2.1, (h.1 c).2.2.2.2.1⟩, h.2⟩) (run_result m ρ hO)

/-- The group sizes of the launch, as naturals. -/
def sz : ℕ → ℕ := Cert.Pre.sizes (m ((0 : Dev nD), main_arg4) : IVec S4 32)

theorem sz_at (e : Fin 4) : (U0 m 0 main_arg4 : IVec S4 32) (ix1 e) = BitVec.ofNat 32 (sz m e.val) := Cert.Pre.sizes_at _ e

/-- Sizes that fit fill the 32768 rows together with the rows left over. -/
theorem sz_full [Cert.Pre_sizes_fit.Facts] (h : ∀ c : Dev nD, Cert.Pre_sizes_fit.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) = fun _ => 1#1) : E (sz m) 4 = 32768 :=
  Cert.Pre.sizes_full _ _ _ _ _ (h 0)

theorem ok_of_pre [Cert.Pre_sizes_fit.Facts] (h : ∀ c : Dev nD, Cert.Pre_sizes_fit.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) = fun _ => 1#1) : Ok m :=
  ok m (sz_at m) (sz_full m h)

end Cert.Kernel.Run
-- ==== Proof.KernelIdeal.Entry.lean ====
/- What the grouped matrix product's region finds: the buffers after the host operations that build the schedule, the four
   prefetched tables read off them, and the windows' blocks at those tables. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stretches of host operations before the region, in order. -/
abbrev stretches : List (List (HloOp τ sig (Elt F))) :=
  [hostOps0, hostOps0_1, hostOps0_2, hostOps0_3, hostOps0_4, hostOps0_5, hostOps0_6, hostOps0_7, hostOps0_8, hostOps0_9,
    hostOps0_10, hostOps0_11, hostOps0_12, hostOps0_13]

/-- Core `c`'s TensorCore buffers when the region is entered. -/
abbrev V (c : Dev nD) (b : Ref sig .tc) : Buf (Elt F) ((c : Thread nD τ).loc b) :=
  StableHlo.after (List.flatten stretches) (fun b => m (c, b)) b

theorem stretches_sub : (stretches (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub,
    hostOps0_7_sub, hostOps0_8_sub, hostOps0_9_sub, hostOps0_10_sub, hostOps0_11_sub, hostOps0_12_sub, hostOps0_13_sub⟩

theorem stretches_fresh : (stretches (F := F)).Forall fun ops => ops.Forall fun op => op.fresh = ∅ := by
  simp only [List.Forall]; repeat' constructor

set_option maxHeartbeats 800000 in
/-- @main up to the region: the stretches, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main stretches stretches_sub stretches_fresh main_chain

/-! ## The tables -/

/-- The tables' contents when the region is entered. -/
def tbl : pre0.Contents (Elt F) := fun j => V m (0 : Dev nD) (pre0.ref j)

theorem V_pre (c : Dev nD) (j : Fin 4) : V m c (pre0.ref j) = tbl m j := by
  obtain rfl : c = 0 := Subsingleton.elim _ _; rfl

/-- The tables place every block inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0 : Memref sig .tc .smem S36 .i32 := Memref.whole main_v45
abbrev tbM1 : Memref sig .tc .smem S36 .i32 := Memref.whole main_v73
abbrev tbM2 : Memref sig .tc .smem S36 .i32 := Memref.whole main_v55
abbrev tbM3 : Memref sig .tc .smem S36 .i32 := Memref.whole main_v71

/-- A table's buffer on core `c`, and that buffer held at half the full share. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The four tables' halves, one by one. -/
theorem PhiT_eq (c : Dev nD) : (Pipeline.ΦT pre0 (tbl m) c : sProp 𝕄) =
    iprop(tbPt c tbM0 (tbl m 0) ∗ tbPt c tbM1 (tbl m 1) ∗ tbPt c tbM2 (tbl m 2) ∗ tbPt c tbM3 (tbl m 3)) := by
  unfold Pipeline.ΦT Pipeline.prefHeld
  rw [show (Finset.univ : Finset (Fin 4)) = {(0 : Fin 4), 1, 2, 3} from by decide,
    bigSep_insert (by decide), bigSep_insert (by decide), bigSep_insert (by decide), bigSep_singleton]
  rfl

/-! ## The windows' blocks -/

/-- Window `w`'s block at point `t`, read off its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- Each input's current staging buffer holds its block at every point. -/
theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`. -/
abbrev ms0 (hO : Ok m) (t : Fin (cfgM m hO).N) : Memref sig .tc .vmem S1024x10752 .fp8e4m3 := spec0_0.stage ((cfgM m hO).slots t 0)
abbrev ms1 (hO : Ok m) (t : Fin (cfgM m hO).N) : Memref sig .tc .vmem S1024x1 .f32 := spec0_1.stage ((cfgM m hO).slots t 1)
abbrev ms2 (hO : Ok m) (t : Fin (cfgM m hO).N) : Memref sig .tc .vmem S1x10752x1024 .fp8e4m3 := spec0_2.stage ((cfgM m hO).slots t 2)
abbrev ms3 (hO : Ok m) (t : Fin (cfgM m hO).N) : Memref sig .tc .vmem S1x1x1024 .f32 := spec0_3.stage ((cfgM m hO).slots t 3)
abbrev ms4 (hO : Ok m) (t : Fin (cfgM m hO).N) : Memref sig .tc .vmem S1024x1024 .bf16 := spec0_4.stage ((cfgM m hO).slots t 4)

/-- The kernel body at point `t`, on what the pipeline calls it with. -/
abbrev bodyAt (a : (pcfg0 (F := F)).Adm) (t : Fin (cfg0 a).N) : Prog (TpuEff nD τ sig (Elt F) Λ₀ .tc) PUnit :=
  cc0__gmm_kernel (grid0.coords t) tbM0 (Memref.isWhole_whole _) tbM1 (Memref.isWhole_whole _) tbM2 (Memref.isWhole_whole _) tbM3 (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))

/-- The body table's row at point `t`'s slots is that body. -/
theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

end Cert.KernelIdeal.Run

end
-- ==== Proof.KernelIdeal.Reads.lean ====
/- The buffers of the schedule, stretch by stretch: after each stretch of host operations, the words that the tables are
   built from, in closed form over the group sizes. -/
module

public import proofs.«01_k».proof.Proof.KernelIdeal.Entry
public import proofs.«01_k».proof.Proof.Sched
public import proofs.«01_k».proof.Proof.WordNat
public import Idealize.ShloMosaic.Lib.StableHlo.RunRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Idealize.ShloMosaic.WordCmp Idealize.ShloMosaic.Routing Cert.WordNat Cert.Sched

/-- Core `c`'s buffers at the launch, and after each stretch. -/
def U0 (c : Dev nD) : Valuation τ sig (Elt F) := fun b => m (c, b)
def U1 (c : Dev nD) : Valuation τ sig (Elt F) := StableHlo.after hostOps0 (U0 m c)
def U2 (c : Dev nD) : Valuation τ sig (Elt F) := StableHlo.after hostOps0_1 (U1 m c)
def U3 (c : Dev nD) : Valuation τ sig (Elt F) := StableHlo.after hostOps0_2 (U2 m c)
def U4 (c : Dev nD) : Valuation τ sig (Elt F) := StableHlo.after hostOps0_3 (U3 m c)
def U5 (c : Dev nD) : Valuation τ sig (Elt F) := StableHlo.after hostOps0_4 (U4 m c)
def U6 (c : Dev nD) : Valuation τ sig (Elt F) := StableHlo.after hostOps0_5 (U5 m c)
def U7 (c : Dev nD) : Valuation τ sig (Elt F) := StableHlo.after hostOps0_6 (U6 m c)
def U8 (c : Dev nD) : Valuation τ sig (Elt F) := StableHlo.after hostOps0_7 (U7 m c)
def U9 (c : Dev nD) : Valuation τ sig (Elt F) := StableHlo.after hostOps0_8 (U8 m c)
def U10 (c : Dev nD) : Valuation τ sig (Elt F) := StableHlo.after hostOps0_9 (U9 m c)
def U11 (c : Dev nD) : Valuation τ sig (Elt F) := StableHlo.after hostOps0_10 (U10 m c)
def U12 (c : Dev nD) : Valuation τ sig (Elt F) := StableHlo.after hostOps0_11 (U11 m c)
def U13 (c : Dev nD) : Valuation τ sig (Elt F) := StableHlo.after hostOps0_12 (U12 m c)
def U14 (c : Dev nD) : Valuation τ sig (Elt F) := StableHlo.after hostOps0_13 (U13 m c)

theorem V_eq (c : Dev nD) (b : Ref sig .tc) : V m c b = U14 m c b := by
  unfold V stretches U14 U13 U12 U11 U10 U9 U8 U7 U6 U5 U4 U3 U2 U1 U0
  simp only [List.flatten_cons, List.flatten_nil, List.append_nil, StableHlo.after_append]

variable (c : Dev nD)

set_option maxHeartbeats 2000000

/-! ## The stretches, each as one term over the buffers before it -/

theorem v4_eq : (U1 m c main_v4 : IVec S5 32) = concatenate S5 0 [⟨S4, (U0 m c main_arg4 : IVec S4 32)⟩,
    ⟨S1, subi (broadcastInDim S1 ![] bcast_S_S1 (constantI S_ 32 32768#32)) (broadcastInDim S1 ![] bcast_S_S1
      (Host.reduce IntOp.addi (U0 m c main_arg4 : IVec S4 32) (constantI S_ 32 0#32) reducesTo_S4_S_d0 h_S_))⟩] concatenates_S4_S1_S5_d0 := by
  unfold U1; after_reads_simp
  refine congrArg₂ (fun (a : IVec S4 32) (b : IVec S1 32) => concatenate S5 0 [⟨S4, a⟩, ⟨S1, b⟩] concatenates_S4_S1_S5_d0) ?_ ?_ <;> after_reads_simp

theorem v5_eq : (U2 m c main_v5 : IVec S5 32) = Host.reduceWindow IntOp.addi ![5] ![1] ![4] ![0] (U1 m c main_v4 : IVec S5 32)
    (broadcastInDim S_ ![] bcast_S_S_ (constantI S_ 32 0#32)) reduceWindows_S5_S5_w5s1p4_0 h_S_ := by
  unfold U2; after_reads_simp; rfl

theorem v6_eq : (U3 m c main_v6 : IVec S5 32) = subi (U2 m c main_v5 : IVec S5 32) (U1 m c main_v4 : IVec S5 32) := by
  unfold U3 U2; after_reads_simp

theorem v7_eq : (U4 m c main_v7 : IVec S5 32) = pyDiv bcast_S_S5 (U3 m c main_v6 : IVec S5 32) (constantI S_ 32 1024#32) := by
  unfold U4 U3; after_reads_simp; rfl

theorem v9_eq : (U5 m c main_v9 : IVec S5 1) = cmpi .sgt (U1 m c main_v4 : IVec S5 32) (broadcastInDim S5 ![] bcast_S_S5 (constantI S_ 32 0#32)) := by
  unfold U5 U4 U3 U2; after_reads_simp

theorem v11_eq : (U5 m c main_v11 : IVec S5 32) = subi (U2 m c main_v5 : IVec S5 32) (broadcastInDim S5 ![] bcast_S_S5 (constantI S_ 32 1#32)) := by
  unfold U5 U4 U3; after_reads_simp

theorem v12_eq : (U6 m c main_v12 : IVec S5 32) = pyDiv bcast_S_S5 (U5 m c main_v11 : IVec S5 32) (constantI S_ 32 1024#32) := by
  unfold U6 U5; after_reads_simp; rfl

theorem v15_eq : (U7 m c main_v15 : IVec S5 32) = addi (subi (U6 m c main_v12 : IVec S5 32) (U4 m c main_v7 : IVec S5 32))
    (broadcastInDim S5 ![] bcast_S_S5 (constantI S_ 32 1#32)) := by
  unfold U7 U6 U5; after_reads_simp

theorem v16_eq : (U8 m c main_v16 : IVec S5 32) = select (U5 m c main_v9 : IVec S5 1) (U7 m c main_v15 : IVec S5 32)
    (broadcastInDim S5 ![] bcast_S_S5 (constantI S_ 32 0#32)) := by
  unfold U8 U7 U6; after_reads_simp; rfl

theorem v17_eq : (U9 m c main_v17 : IVec S5 32) = Host.reduceWindow IntOp.addi ![5] ![1] ![4] ![0] (U8 m c main_v16 : IVec S5 32)
    (broadcastInDim S_ ![] bcast_S_S_ (constantI S_ 32 0#32)) reduceWindows_S5_S5_w5s1p4_0 h_S_ := by
  unfold U9; after_reads_simp; rfl

theorem v18_eq : (U10 m c main_v18 : IVec S5 32) = subi (U9 m c main_v17 : IVec S5 32) (U8 m c main_v16 : IVec S5 32) := by
  unfold U10 U9; after_reads_simp

theorem v23_eq : (U10 m c main_v23 : IVec S36 1) = cmpi .slt (iotaInDim S36 32 0) (broadcastInDim S36 ![] bcast_S_S36
    (shapeCast S_ (extractStridedSlice S1 ![4] (U9 m c main_v17 : IVec S5 32) slices_S5_S1_4) shapeCasts_S1_S_)) := by
  unfold U10; after_reads_simp; rfl

theorem v28_eq : (U10 m c main_v28 : IVec S36 32) = minsi (iotaInDim S36 32 0) (broadcastInDim S36 ![] bcast_S_S36
    (subi (shapeCast S_ (extractStridedSlice S1 ![4] (U9 m c main_v17 : IVec S5 32) slices_S5_S1_4) shapeCasts_S1_S_) (constantI S_ 32 1#32))) := by
  unfold U10; after_reads_simp; rfl

theorem v29_eq : (U11 m c main_v29 : IVec S36 32) = Host.reduce IntOp.addi (extui 32 (cmpi .sle
      (broadcastInDim S5x36 ![0, 1] bcast_S5x1_S5x36_0_1 (broadcastInDim S5x1 ![0] bcast_S5_S5x1_0 (U9 m c main_v17 : IVec S5 32)))
      (broadcastInDim S5x36 ![0, 1] bcast_S1x36_S5x36_0_1 (broadcastInDim S1x36 ![1] bcast_S36_S1x36_1 (U10 m c main_v28 : IVec S36 32)))) natLt_1_32)
    (constantI S_ 32 0#32) reducesTo_S5x36_S36_d0 h_S_ := by
  unfold U11 U10; after_reads_simp; rfl

/-- A group number made an index, as the printed take wraps it. -/
abbrev wrapIx (g : IVec S36 32) : IVec S36x1 32 :=
  broadcastInDim S36x1 ![0] bcast_S36_S36x1_0 (select (cmpi .slt g (broadcastInDim S36 ![] bcast_S_S36 (constantI S_ 32 0#32)))
    (addi g (broadcastInDim S36 ![] bcast_S_S36 (constantI S_ 32 5#32))) g)

theorem v45_eq : (U12 m c main_v45 : IVec S36 32) = subi (addi (Host.gather gather_S5_S36x1_S36_n_0_n_n_0_1_1 (U4 m c main_v7 : IVec S5 32) (wrapIx (U11 m c main_v29)))
      (U10 m c main_v28 : IVec S36 32)) (Host.gather gather_S5_S36x1_S36_n_0_n_n_0_1_1 (U10 m c main_v18 : IVec S5 32) (wrapIx (U11 m c main_v29))) := by
  unfold U12 U11 U10 U9 U8 U7 U6 U5; after_reads_simp

theorem v55_eq : (U12 m c main_v55 : IVec S36 32) = maxsi (Host.gather gather_S5_S36x1_S36_n_0_n_n_0_1_1 (U3 m c main_v6 : IVec S5 32) (wrapIx (U11 m c main_v29)))
      (muli (U12 m c main_v45 : IVec S36 32) (broadcastInDim S36 ![] bcast_S_S36 (constantI S_ 32 1024#32))) := by
  unfold U12 U11 U10 U9 U8 U7 U6 U5 U4; after_reads_simp

theorem v67_eq : (U12 m c main_v67 : IVec S36 32) = minsi (Host.gather gather_S5_S36x1_S36_n_0_n_n_0_1_1 (U2 m c main_v5 : IVec S5 32) (wrapIx (U11 m c main_v29)))
      (muli (addi (U12 m c main_v45 : IVec S36 32) (broadcastInDim S36 ![] bcast_S_S36 (constantI S_ 32 1#32)))
        (broadcastInDim S36 ![] bcast_S_S36 (constantI S_ 32 1024#32))) := by
  unfold U12 U11 U10 U9 U8 U7 U6 U5 U4 U3; after_reads_simp

theorem v70_eq : (U12 m c main_v70 : IVec S36 1) = andi (U10 m c main_v23 : IVec S36 1)
    (cmpi .slt (U11 m c main_v29 : IVec S36 32) (broadcastInDim S36 ![] bcast_S_S36 (constantI S_ 32 4#32))) := by
  unfold U12 U11; after_reads_simp

theorem v71_eq : (U13 m c main_v71 : IVec S36 32) = select (U12 m c main_v70 : IVec S36 1) (U12 m c main_v67 : IVec S36 32) (U12 m c main_v55 : IVec S36 32) := by
  unfold U13; after_reads_simp; rfl

theorem v73_eq : (U14 m c main_v73 : IVec S36 32) = minsi (U11 m c main_v29 : IVec S36 32) (broadcastInDim S36 ![] bcast_S_S36 (constantI S_ 32 3#32)) := by
  unfold U14 U13 U12; after_reads_simp

theorem v74_eq : (U14 m c main_v74 : (⟨S32768x1, .f32⟩ : BufTy).Contents (Elt F)) = shapeCast S32768x1 (m (c, main_arg1)) shapeCasts_S32768_S32768x1 := by
  unfold U14 U13 U12 U11 U10 U9 U8 U7 U6 U5 U4 U3 U2 U1 U0; after_reads_simp; rfl

theorem v75_eq : (U14 m c main_v75 : (⟨S4x1x6144, .f32⟩ : BufTy).Contents (Elt F)) = shapeCast S4x1x6144 (m (c, main_arg3)) shapeCasts_S4x6144_S4x1x6144 := by
  unfold U14 U13 U12 U11 U10 U9 U8 U7 U6 U5 U4 U3 U2 U1 U0; after_reads_simp; rfl

theorem t45_eq : U14 m c main_v45 = U12 m c main_v45 := by
  unfold U14 U13; after_reads_simp
theorem t55_eq : U14 m c main_v55 = U12 m c main_v55 := by
  unfold U14 U13; after_reads_simp
theorem t71_eq : U14 m c main_v71 = U13 m c main_v71 := by
  unfold U14; after_reads_simp

theorem arg0_eq : U14 m c main_arg0 = m (c, main_arg0) := by
  unfold U14 U13 U12 U11 U10 U9 U8 U7 U6 U5 U4 U3 U2 U1 U0; after_reads_simp
theorem arg1_eq : U14 m c main_arg1 = m (c, main_arg1) := by
  unfold U14 U13 U12 U11 U10 U9 U8 U7 U6 U5 U4 U3 U2 U1 U0; after_reads_simp
theorem arg2_eq : U14 m c main_arg2 = m (c, main_arg2) := by
  unfold U14 U13 U12 U11 U10 U9 U8 U7 U6 U5 U4 U3 U2 U1 U0; after_reads_simp
theorem arg3_eq : U14 m c main_arg3 = m (c, main_arg3) := by
  unfold U14 U13 U12 U11 U10 U9 U8 U7 U6 U5 U4 U3 U2 U1 U0; after_reads_simp
theorem arg4_eq : U14 m c main_arg4 = m (c, main_arg4) := by
  unfold U14 U13 U12 U11 U10 U9 U8 U7 U6 U5 U4 U3 U2 U1 U0; after_reads_simp

end Cert.KernelIdeal.Run
-- ==== Proof.KernelIdeal.Body.lean ====
/- One run of the kernel's body: what it leaves in the output's staging buffer, as a function of the words it loads from the
   tables, the four input blocks and what the buffer held. -/
module

public import proofs.«01_k».proof.Proof.KernelIdeal.Entry
public import Idealize.ShloMosaic.Lib.VecWindow

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word at a table's position, as the body loads it. -/
abbrev wordAt (c : Dev nD) (M : Memref sig .tc .smem S36 .i32) (off : Fin 1 → Nat) (h : ∀ a, off a + S1.size a ≤ S36.size a)
    (f : TbBuf (F := F) c M) : Elt F .i32 :=
  M.view.readAt (Elt F) (Rect.unit (s := S36) off S1.size h).toLoadRect f (Shape.Idx.first (numel1_S1.symm ▸ Nat.one_pos))

/-- What one run of the body leaves in the output's buffer: zeros on a tile's first visit, then the rows of the work item
    overwritten. -/
def stepW (i : grid0.Coords) (v1 v3 v5 v10 : Elt F .i32) (x0 : Vec F S1024x10752 .fp8e4m3) (x1 : Vec F S1024x1 .f32)
    (x2 : Vec F S1x10752x1024 .fp8e4m3) (x3 : Vec F S1x1x1024 .f32) (y : Vec F S1024x1024 .bf16) : Vec F S1024x1024 .bf16 :=
  if k0_cond2 v3 v5 = 1#1 then
    k0_pay2 v1 v3 v5 x0 x2 x1 x3 (if k0_cond1 i v1 v10 = 1#1 then k0_pay1 (F := F) else y)
  else if k0_cond1 i v1 v10 = 1#1 then k0_pay1 (F := F) else y

/-- Equal operands store equal blocks. -/
theorem pay2_congr {v1 v1' v3 v3' v5 v5' : Elt F .i32} {x x' : Vec F S1024x10752 .fp8e4m3} {w w' : Vec F S1x10752x1024 .fp8e4m3}
    {xs xs' : Vec F S1024x1 .f32} {ws ws' : Vec F S1x1x1024 .f32} {y y' : Vec F S1024x1024 .bf16}
    (h1 : v1 = v1') (h3 : v3 = v3') (h5 : v5 = v5') (hx : x = x') (hw : w = w') (hxs : xs = xs') (hws : ws = ws') (hy : y = y') :
    k0_pay2 v1 v3 v5 x w xs ws y = k0_pay2 v1' v3' v5' x' w' xs' ws' y' := by
  subst h1 h3 h5 hx hw hxs hws hy; rfl

set_option maxHeartbeats 2000000 in
/-- The body's triple on whole staging memrefs. -/
theorem body_run (c : Dev nD) (i : grid0.Coords) (arg6 : Memref sig .tc .vmem S1024x10752 .fp8e4m3) (harg6 : arg6.IsWhole)
    (arg7 : Memref sig .tc .vmem S1024x1 .f32) (harg7 : arg7.IsWhole) (arg8 : Memref sig .tc .vmem S1x10752x1024 .fp8e4m3) (harg8 : arg8.IsWhole)
    (arg9 : Memref sig .tc .vmem S1x1x1024 .f32) (harg9 : arg9.IsWhole) (arg10 : Memref sig .tc .vmem S1024x1024 .bf16) (harg10 : arg10.IsWhole)
    (x0 : Vec F S1024x10752 .fp8e4m3) (x1 : Vec F S1024x1 .f32) (x2 : Vec F S1x10752x1024 .fp8e4m3) (x3 : Vec F S1x1x1024 .f32)
    (y : Vec F S1024x1024 .bf16)
    (t0 : TbBuf (F := F) c tbM0) (t1 : TbBuf (F := F) c tbM1) (t2 : TbBuf (F := F) c tbM2) (t3 : TbBuf (F := F) c tbM3)
    (E : Set ℕ) (K : PUnit → sProp 𝕄) :
    iprop(owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare y
        ∗ (tbPt c tbM0 t0 ∗ tbPt c tbM1 t1 ∗ tbPt c tbM2 t2 ∗ tbPt c tbM3 t3)
        ∗ (iprop(owns (c : Thread nD τ) arg6 fullShare x0 ∗ owns (c : Thread nD τ) arg7 fullShare x1 ∗ owns (c : Thread nD τ) arg8 fullShare x2
            ∗ owns (c : Thread nD τ) arg9 fullShare x3
            ∗ owns (c : Thread nD τ) arg10 fullShare
                (stepW i (wordAt c tbM0 (k0_off1 i) (k0_off1_inb i) t0) (wordAt c tbM2 (k0_off1 i) (k0_off1_inb i) t2)
                  (wordAt c tbM3 (k0_off1 i) (k0_off1_inb i) t3) (wordAt c tbM0 (k0_off2 i) (k0_off2_inb i) t0) x0 x1 x2 x3 y)
            ∗ (tbPt c tbM0 t0 ∗ tbPt c tbM1 t1 ∗ tbPt c tbM2 t2 ∗ tbPt c tbM3 t3)) -∗ K ⟨⟩))
      ⊢ wp frame (wpE (defs₀ (F := F)) Variants.none c none) E
          (cc0__gmm_kernel i tbM0 (Memref.isWhole_whole _) tbM1 (Memref.isWhole_whole _) tbM2 (Memref.isWhole_whole _) tbM3 (Memref.isWhole_whole _)
            arg6 harg6 arg7 harg7 arg8 harg8 arg9 harg9 arg10 harg10) K := by
  simp only [cc0__gmm_kernel_eq_skeleton]; unfold cc0__gmm_kernel_skel
  unfold owns
  unfold stepW
  by_cases h1 : k0_cond1 i (wordAt c tbM0 (k0_off1 i) (k0_off1_inb i) t0) (wordAt c tbM0 (k0_off2 i) (k0_off2_inb i) t0) = 1#1 <;>
  by_cases h2 : k0_cond2 (wordAt c tbM2 (k0_off1 i) (k0_off1_inb i) t2) (wordAt c tbM3 (k0_off1 i) (k0_off1_inb i) t3) = 1#1
  all_goals
    simp only [h1, h2, if_true, if_false]
    iintro ⟨⟨%f0, %hf0, H0⟩, ⟨%f1, %hf1, H1⟩, ⟨%f2, %hf2, H2⟩, ⟨%f3, %hf3, H3⟩, ⟨%f4, %hf4, H4⟩, ⟨HT0, HT1, HT2, HT3⟩, Hk⟩
    obtain rfl := harg6.eq_unread hf0
    obtain rfl := harg7.eq_unread hf1
    obtain rfl := harg8.eq_unread hf2
    obtain rfl := harg9.eq_unread hf3
    obtain rfl := harg10.eq_unread hf4
    sl_exec
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]; rotate_left
    · isplitl [HT0]; · iexact HT0
      isplitl [HT1]; · iexact HT1
      isplitl [HT2]; · iexact HT2
      iexact HT3
    iexists _; isplitr; swap; · iexact H4
    ipureintro
  · refine (View.read_writes_full _ _ _ _ _).trans (pay2_congr rfl rfl rfl ((View.readAt_full _ _ _).trans hf0)
      ((View.readAt_full _ _ _).trans hf2) ((View.readAt_full _ _ _).trans hf1) ((View.readAt_full _ _ _).trans hf3) ?_)
    exact View.readCov_full _ _ _ _ _
  · exact View.read_writes_full _ _ _ _ _
  · exact (View.read_writes_full _ _ _ _ _).trans (pay2_congr rfl rfl rfl ((View.readAt_full _ _ _).trans hf0)
      ((View.readAt_full _ _ _).trans hf2) ((View.readAt_full _ _ _).trans hf1) ((View.readAt_full _ _ _).trans hf3)
      ((View.readAt_full _ _ _).trans hf4))
  · exact hf4

end Cert.KernelIdeal.Run

end
-- ==== Proof.KernelIdeal.Words.lean ====
/- The grid's points as a column band and a work item, the body's two conditions read as comparisons, and the words the
   body loads as the tables' entries. -/
module

public import proofs.«01_k».proof.Proof.KernelIdeal.Body

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem N_eq : grid0.N = 216 := by decide
theorem coords_eq : ∀ t : Fin grid0.N, (grid0.coords t 0).val = t.val / 36 ∧ (grid0.coords t 1).val = t.val % 36 := by decide +kernel

/-! ## The conditions -/

theorem cond1_iff (i : grid0.Coords) (v1 v10 : BitVec 32) : k0_cond1 i v1 v10 = 1#1 ↔ (i 1).val = 0 ∨ v10 ≠ v1 := by
  have hi : (i 1).val < 36 := (i 1).isLt
  have h0 : BitVec.ofNat 32 (i 1).val = 0#32 ↔ (i 1).val = 0 := by
    constructor
    · intro h; have := congrArg BitVec.toNat h; simp at this; omega
    · intro h; rw [h]
  unfold k0_cond1
  simp only [Scalar.cmpi, Scalar.ori, Scalar.extui, IntOp.cmpi]
  have hb : ∀ p q : Bool, BitVec.ofBool (BitVec.setWidth 32 (IntOp.ori (BitVec.ofBool p) (BitVec.ofBool q)) != 0#32) = 1#1 ↔ p = true ∨ q = true := by
    decide
  refine (hb _ _).trans ?_
  rw [beq_iff_eq, bne_iff_ne, h0]

theorem cond2_iff (v3 v5 : BitVec 32) : k0_cond2 v3 v5 = 1#1 ↔ v3.toInt < v5.toInt := by
  unfold k0_cond2
  simp only [Scalar.cmpi, Scalar.extui, IntOp.cmpi]
  by_cases h : v3.toInt < v5.toInt <;> simp [h, BitVec.slt]

/-! ## The words -/

/-- Entry `n` of table `k`. -/
def tw (k : Fin 4) (n : ℕ) : BitVec 32 :=
  match k with
  | 0 => tbl m 0 (fun a => if h : n < 36 then ⟨n, by fin_cases a; exact h⟩ else ⟨0, by fin_cases a; exact Nat.zero_lt_succ _⟩)
  | 1 => tbl m 1 (fun a => if h : n < 36 then ⟨n, by fin_cases a; exact h⟩ else ⟨0, by fin_cases a; exact Nat.zero_lt_succ _⟩)
  | 2 => tbl m 2 (fun a => if h : n < 36 then ⟨n, by fin_cases a; exact h⟩ else ⟨0, by fin_cases a; exact Nat.zero_lt_succ _⟩)
  | 3 => tbl m 3 (fun a => if h : n < 36 then ⟨n, by fin_cases a; exact h⟩ else ⟨0, by fin_cases a; exact Nat.zero_lt_succ _⟩)

theorem off1_val (i : grid0.Coords) (a : Fin 1) : k0_off1 i a = (i 1).val := by rw [k0_off1_eq]; fin_cases a; rfl
theorem off2_val : ∀ (i : grid0.Coords) (a : Fin 1), k0_off2 i a = (i 1).val - 1 := by decide +kernel

theorem word0_1 (c : Dev nD) (i : grid0.Coords) : wordAt c tbM0 (k0_off1 i) (k0_off1_inb i) (tbl m 0) = tw m 0 (i 1).val := by
  have hi : (i 1).val < 36 := (i 1).isLt
  refine congrArg (tbl m 0) (funext fun a => Fin.ext ?_)
  rw [dif_pos hi]; fin_cases a
  exact (Nat.add_zero _).trans (off1_val i 0)
theorem word0_2 (c : Dev nD) (i : grid0.Coords) : wordAt c tbM0 (k0_off2 i) (k0_off2_inb i) (tbl m 0) = tw m 0 ((i 1).val - 1) := by
  have hi : (i 1).val - 1 < 36 := by have : (i 1).val < 36 := (i 1).isLt; omega
  refine congrArg (tbl m 0) (funext fun a => Fin.ext ?_)
  rw [dif_pos hi]; fin_cases a
  exact (Nat.add_zero _).trans (off2_val i 0)
theorem word2_1 (c : Dev nD) (i : grid0.Coords) : wordAt c tbM2 (k0_off1 i) (k0_off1_inb i) (tbl m 2) = tw m 2 (i 1).val := by
  have hi : (i 1).val < 36 := (i 1).isLt
  refine congrArg (tbl m 2) (funext fun a => Fin.ext ?_)
  rw [dif_pos hi]; fin_cases a
  exact (Nat.add_zero _).trans (off1_val i 0)
theorem word3_1 (c : Dev nD) (i : grid0.Coords) : wordAt c tbM3 (k0_off1 i) (k0_off1_inb i) (tbl m 3) = tw m 3 (i 1).val := by
  have hi : (i 1).val < 36 := (i 1).isLt
  refine congrArg (tbl m 3) (funext fun a => Fin.ext ?_)
  rw [dif_pos hi]; fin_cases a
  exact (Nat.add_zero _).trans (off1_val i 0)

/-! ## The index maps -/

theorem at_tw0 (i : grid0.Coords) : (tbl m).at 0 (Rect.unit (s := S36) ![(Scalar.indexCast (BitVec.ofNat 32 (i 1).val)).toNat] S1.size (k0_off1_inb i)) numel1_S1
    = tw m 0 (i 1).val := word0_1 m 0 i
theorem at_tw1 (i : grid0.Coords) : (tbl m).at 1 (Rect.unit (s := S36) ![(Scalar.indexCast (BitVec.ofNat 32 (i 1).val)).toNat] S1.size (k0_off1_inb i)) numel1_S1
    = tw m 1 (i 1).val := by
  have hi : (i 1).val < 36 := (i 1).isLt
  refine congrArg (tbl m 1) (funext fun a => Fin.ext ?_)
  rw [dif_pos hi]; fin_cases a
  exact (Nat.add_zero _).trans (off1_val i 0)

theorem col_toNat (i : grid0.Coords) : (BitVec.ofNat 32 (i 0).val).toNat = (i 0).val := by
  have : (i 0).val < 6 := (i 0).isLt
  rw [BitVec.toNat_ofNat]; omega

theorem ix_0 (i : grid0.Coords) : ix0 (tbl m) 0 i = ![(tw m 0 (i 1).val).toNat, 0] :=
  congrArg (fun w : BitVec 32 => ![w.toNat, 0]) (at_tw0 m i)
theorem ix_1 (i : grid0.Coords) : ix0 (tbl m) 1 i = ![(tw m 0 (i 1).val).toNat, 0] :=
  congrArg (fun w : BitVec 32 => ![w.toNat, 0]) (at_tw0 m i)
theorem ix_2 (i : grid0.Coords) : ix0 (tbl m) 2 i = ![(tw m 1 (i 1).val).toNat, 0, (i 0).val] :=
  (congrArg (fun w : BitVec 32 => ![w.toNat, 0, (BitVec.ofNat 32 (i 0).val).toNat]) (at_tw1 m i)).trans (by rw [col_toNat])
theorem ix_3 (i : grid0.Coords) : ix0 (tbl m) 3 i = ![(tw m 1 (i 1).val).toNat, 0, (i 0).val] :=
  (congrArg (fun w : BitVec 32 => ![w.toNat, 0, (BitVec.ofNat 32 (i 0).val).toNat]) (at_tw1 m i)).trans (by rw [col_toNat])
theorem ix_4 (i : grid0.Coords) : ix0 (tbl m) 4 i = ![(tw m 0 (i 1).val).toNat, (i 0).val] :=
  (congrArg (fun w : BitVec 32 => ![w.toNat, (BitVec.ofNat 32 (i 0).val).toNat]) (at_tw0 m i)).trans (by rw [col_toNat])

/-- The printed idle condition of the output, as a function of the four words. -/
def idleB (i : grid0.Coords) (a b c d : BitVec 32) : Bool := !(k0_cond1 i a b == 1#1) && !(k0_cond2 c d == 1#1)

theorem idleB_congr (i : grid0.Coords) {a b c d a' b' c' d' : BitVec 32} (ha : a = a') (hb : b = b') (hc : c = c') (hd : d = d') :
    idleB i a b c d = idleB i a' b' c' d' := by subst ha hb hc hd; rfl

theorem atD_1 (i : grid0.Coords) : (tbl m).atD 0 (k0_off1 i) = tw m 0 (i 1).val := by
  have h : ∀ a, k0_off1 i a + 1 ≤ (pre0.ref 0).ty.shape.size a := fun a => by have := k0_off1_inb i a; fin_cases a; exact this
  exact (dif_pos h).trans ((congrArg (tbl m 0) (funext fun a => Fin.ext rfl)).trans (word0_1 m 0 i))
theorem atD_2 (i : grid0.Coords) : (tbl m).atD 0 (k0_off2 i) = tw m 0 ((i 1).val - 1) := by
  have h : ∀ a, k0_off2 i a + 1 ≤ (pre0.ref 0).ty.shape.size a := fun a => by have := k0_off2_inb i a; fin_cases a; exact this
  exact (dif_pos h).trans ((congrArg (tbl m 0) (funext fun a => Fin.ext rfl)).trans (word0_2 m 0 i))
theorem atD_3 (i : grid0.Coords) : (tbl m).atD 2 (k0_off1 i) = tw m 2 (i 1).val := by
  have h : ∀ a, k0_off1 i a + 1 ≤ (pre0.ref 2).ty.shape.size a := fun a => by have := k0_off1_inb i a; fin_cases a; exact this
  exact (dif_pos h).trans ((congrArg (tbl m 2) (funext fun a => Fin.ext rfl)).trans (word2_1 m 0 i))
theorem atD_4 (i : grid0.Coords) : (tbl m).atD 3 (k0_off1 i) = tw m 3 (i 1).val := by
  have h : ∀ a, k0_off1 i a + 1 ≤ (pre0.ref 3).ty.shape.size a := fun a => by have := k0_off1_inb i a; fin_cases a; exact this
  exact (dif_pos h).trans ((congrArg (tbl m 3) (funext fun a => Fin.ext rfl)).trans (word3_1 m 0 i))

theorem idle_at (a : (pcfg0 (F := F)).Adm) : (cfg0 a).idle = idle0 a.1 := by with_reducible rfl

theorem idle_of (a : (pcfg0 (F := F)).Adm) {pf : pre0.Contents (Elt F)} (h : a.1 = pf) : (cfg0 a).idle = idle0 pf := by
  subst h; exact idle_at a

theorem idle0_4 (pf : pre0.Contents (Elt F)) (i : grid0.Coords) :
    idle0 pf 4 i = idleB i (pf.atD 0 (k0_off1 i)) (pf.atD 0 (k0_off2 i)) (pf.atD 2 (k0_off1 i)) (pf.atD 3 (k0_off1 i)) := by
  unfold idleB; with_reducible rfl

theorem idle_M (hO : Ok m) : (cfgM m hO).idle = idle0 (tbl m) := idle_of (adm m hO) (Eq.refl (tbl m))

theorem idle4_eq (i : grid0.Coords) :
    idle0 (tbl m) 4 i = idleB i (tw m 0 (i 1).val) (tw m 0 ((i 1).val - 1)) (tw m 2 (i 1).val) (tw m 3 (i 1).val) :=
  (idle0_4 (tbl m) i).trans (idleB_congr i (atD_1 m i) (atD_2 m i) (atD_3 m i) (atD_4 m i))

/-- The output is idle at a point exactly where neither condition holds. -/
theorem idle4_iff (i : grid0.Coords) :
    idle0 (tbl m) 4 i = true ↔ ¬ ((i 1).val = 0 ∨ tw m 0 ((i 1).val - 1) ≠ tw m 0 (i 1).val)
      ∧ ¬ (tw m 2 (i 1).val).toInt < (tw m 3 (i 1).val).toInt := by
  rw [idle4_eq, ← cond1_iff, ← cond2_iff]
  unfold idleB
  simp only [Bool.and_eq_true, Bool.not_eq_true', beq_eq_false_iff_ne, ne_eq]

theorem idle4_M (hO : Ok m) (i : grid0.Coords) : (cfgM m hO).idle (4 : Fin 5) i = idle0 (tbl m) 4 i :=
  congrFun (congrFun (idle_M m hO) (4 : Fin 5)) i

end Cert.KernelIdeal.Run

end
-- ==== Proof.KernelIdeal.Tables.lean ====
/- The four tables in closed form: the words of the schedule's tiles, experts and row bounds. -/
module

public import proofs.«01_k».proof.Proof.KernelIdeal.Reads
public import proofs.«01_k».proof.Proof.KernelIdeal.Words

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Idealize.ShloMosaic.WordCmp Idealize.ShloMosaic.Routing Cert.WordNat Cert.Sched

variable (c : Dev nD) {s : ℕ → ℕ} (hs : ∀ e : Fin 4, (U0 m c main_arg4 : IVec S4 32) (ix1 e) = BitVec.ofNat 32 (s e.val)) (hE : E s 4 = 32768)
include hs hE

theorem E_le {e : ℕ} (he : e < 5) : E s e ≤ 32768 := hE ▸ E_mono s (by omega)
theorem s_le {e : ℕ} (he : e < 5) : s e ≤ E s e ∧ E s e ≤ 32768 := ⟨s_le_E s e, hE ▸ E_mono s (by omega)⟩

/-- The five sizes. -/
theorem at4 (e : Fin 5) : (U1 m c main_v4 : IVec S5 32) (ix1 e) = BitVec.ofNat 32 (s e.val) := by
  rw [v4_eq]
  by_cases h : e.val < 4
  · refine (concatenate_pair_apply_left (0 : Fin S5.rank) _ _ concatenates_S4_S1_S5_d0 (ix1 e) rfl (ix1 (⟨e.val, h⟩ : Fin 4)) ?_).trans (hs ⟨e.val, h⟩)
    intro b; match b with | ⟨0, _⟩ => rfl
  · have he : e.val = 4 := by have := e.isLt; omega
    refine (concatenate_pair_apply_right (0 : Fin S5.rank) _ _ concatenates_S4_S1_S5_d0 (ix1 e) rfl rfl (ix1 (0 : Fin 1)) ?_ ?_).trans ?_
    · intro b hb; match b with | ⟨0, _⟩ => exact absurd rfl hb
    · show 0 + 4 = e.val; omega
    · rw [subi_ap, bc0, bc0, constantI_at, reduce_sum _ s hs reducesTo_S4_S_d0 h_S_, he]
      have h3 : ((List.range 4).map s).sum = E s 3 := rfl
      have h4 := E_succ s 3
      norm_num at h4
      rw [h3, sub_word (by omega) (by norm_num)]
      congr 1; omega

/-- Where the groups end. -/
theorem at5 (e : Fin 5) : (U2 m c main_v5 : IVec S5 32) (ix1 e) = BitVec.ofNat 32 (E s e.val) := by
  rw [v5_eq]
  exact cumsum1 (Nm1 := 4) rfl _ s (at4 m c hs hE) _ (by rw [bc0]; rfl) reduceWindows_S5_S5_w5s1p4_0 h_S_ e

/-- Where the groups start. -/
theorem at6 (e : Fin 5) : (U3 m c main_v6 : IVec S5 32) (ix1 e) = BitVec.ofNat 32 (S s e.val) := by
  have h := s_le m c hs hE e.isLt
  rw [v6_eq, subi_ap, at4 m c hs hE, at5 m c hs hE, sub_word h.1 (by omega)]
  rfl

theorem at7 (e : Fin 5) : (U4 m c main_v7 : IVec S5 32) (ix1 e) = BitVec.ofNat 32 (S s e.val / 1024) := by
  have h := s_le m c hs hE e.isLt
  rw [v7_eq]
  exact pyDiv_ap bcast_S_S5 _ _ _ (at6 m c hs hE e) rfl (by unfold S; omega) (by norm_num) (by norm_num)

theorem at12 (e : Fin 5) (h0 : 0 < s e.val) : (U6 m c main_v12 : IVec S5 32) (ix1 e) = BitVec.ofNat 32 ((E s e.val - 1) / 1024) := by
  have h := s_le m c hs hE e.isLt
  rw [v12_eq]
  refine pyDiv_ap bcast_S_S5 _ _ _ ?_ rfl (by omega) (by norm_num) (by norm_num)
  rw [v11_eq, subi_ap, at5 m c hs hE, bc0, constantI_at, show (1#32 : BitVec 32) = BitVec.ofNat 32 1 from rfl, sub_word (by omega) (by omega)]

/-- How many work items each group takes. -/
theorem at16 (e : Fin 5) : (U8 m c main_v16 : IVec S5 32) (ix1 e) = BitVec.ofNat 32 (n s e.val) := by
  have h := s_le m c hs hE e.isLt
  rw [v16_eq, select_at, v9_eq, cmpi_at, bc0, constantI_at, at4 m c hs hE,
    cmpi_sgt_ofNat (w := 32) (b := 0) (by omega) (by norm_num), select_decide]
  unfold n
  by_cases h0 : 0 < s e.val
  · rw [if_pos h0, if_pos h0, v15_eq, addi_ap, subi_ap, at12 m c hs hE e h0, at7 m c hs hE, bc0, constantI_at,
      sub_word (by unfold S; omega) (by omega), show (1#32 : BitVec 32) = BitVec.ofNat 32 1 from rfl, add_word]
  · rw [if_neg h0, if_neg h0]

theorem at17 (e : Fin 5) : (U9 m c main_v17 : IVec S5 32) (ix1 e) = BitVec.ofNat 32 (W s e.val) := by
  rw [v17_eq]
  exact cumsum1 (Nm1 := 4) rfl _ (n s) (at16 m c hs hE) _ (by rw [bc0]; rfl) reduceWindows_S5_S5_w5s1p4_0 h_S_ e

theorem W_le {e : ℕ} (he : e < 5) : n s e ≤ W s e ∧ W s e ≤ 36 :=
  ⟨n_le_W s e, (W_mono s (by omega)).trans (total_bounds hE).2⟩

theorem at18 (e : Fin 5) : (U10 m c main_v18 : IVec S5 32) (ix1 e) = BitVec.ofNat 32 (Fi s e.val) := by
  have h := W_le m c hs hE e.isLt
  rw [v18_eq, subi_ap, at16 m c hs hE, at17 m c hs hE, sub_word h.1 (by omega)]
  rfl

theorem total_at : shapeCast S_ (extractStridedSlice S1 ![4] (U9 m c main_v17 : IVec S5 32) slices_S5_S1_4) shapeCasts_S1_S_ ValueIdx.ix0 = BitVec.ofNat 32 (W s 4) := by
  refine (shapeCast_apply _ shapeCasts_S1_S_ ValueIdx.ix0 (ix1 (0 : Fin 1)) ?_).trans ?_
  · exact Fin.val_eq_of_eq (Subsingleton.elim (α := Fin 1) _ _)
  · exact (slice1 4 _ slices_S5_S1_4 (0 : Fin 1) (by norm_num)).trans (at17 m c hs hE (4 : Fin 5))

theorem at23 (i : Fin 36) : (U10 m c main_v23 : IVec S36 1) (ix1 i) = BitVec.ofBool (decide (i.val < W s 4)) := by
  have ht := total_bounds hE
  rw [v23_eq, cmpi_at, bc0, total_at m c hs hE, iota1_ap, cmpi_slt_ofNat (w := 32) (by have := i.isLt; omega) (by omega)]

theorem at28 (i : Fin 36) : (U10 m c main_v28 : IVec S36 32) (ix1 i) = BitVec.ofNat 32 (wc s i.val) := by
  have ht := total_bounds hE
  rw [v28_eq]
  show IntOp.minsi _ _ = _
  rw [bc0, subi_ap, total_at m c hs hE, iota1_ap, constantI_at, show (1#32 : BitVec 32) = BitVec.ofNat 32 1 from rfl,
    sub_word (by omega) (by omega), min_word (by have := i.isLt; omega) (by omega)]
  rfl

/-- The group of each position. -/
theorem at29 (i : Fin 36) : (U11 m c main_v29 : IVec S36 32) (ix1 i) = BitVec.ofNat 32 (G s i.val) := by
  have hw := wc_lt hE i.val
  have ht := total_bounds hE
  rw [v29_eq]
  refine count_rows (by norm_num) _ natLt_1_32 reducesTo_S5x36_S36_d0 h_S_ i (fun e => W s e ≤ wc s i.val) fun p => ?_
  have h := W_le m c hs hE p.isLt
  rw [cmpi_at, bcRows, bcCols, at17 m c hs hE, at28 m c hs hE, cmpi_sle_ofNat_eq_one_iff (w := 32) (by omega) (by omega)]

/-- A table of five read at each position's group. -/
theorem take5 (x : IVec S5 32) (f : ℕ → ℕ) (hx : ∀ e : Fin 5, x (ix1 e) = BitVec.ofNat 32 (f e.val)) (i : Fin 36) :
    Host.gather gather_S5_S36x1_S36_n_0_n_n_0_1_1 x (wrapIx (U11 m c main_v29)) (ix1 i) = BitVec.ofNat 32 (f (G s i.val)) := by
  have hg := (G_spec hE i.val).1
  refine (take_ap gather_S5_S36x1_S36_n_0_n_n_0_1_1 rfl rfl rfl rfl x _ i (k := G s i.val) (by omega) (by omega) ?_).trans (hx ⟨G s i.val, by omega⟩)
  unfold wrapIx
  rw [bcCol, select_at, cmpi_at, bc0, constantI_at, at29 m c hs hE, wrap_of_lt _ _ (by rw [BitVec.toNat_ofNat]; omega)]

/-- The tiles. -/
theorem at45 (i : Fin 36) : (U12 m c main_v45 : IVec S36 32) (ix1 i) = BitVec.ofNat 32 (T s i.val) := by
  obtain ⟨a, b, d⟩ := G_spec hE i.val
  obtain ⟨h1, h2, h3, h4, h5⟩ := pos_spec hE i.val
  have hw := wc_lt hE i.val
  have ht := total_bounds hE
  rw [v45_eq, subi_ap, addi_ap, take5 m c hs hE _ (fun e => S s e / 1024) (at7 m c hs hE), take5 m c hs hE _ (Fi s) (at18 m c hs hE), at28 m c hs hE,
    add_word, sub_word (by omega) (by omega)]
  rfl

/-- The first rows. -/
theorem at55 (i : Fin 36) : (U12 m c main_v55 : IVec S36 32) (ix1 i) = BitVec.ofNat 32 (Lo s i.val) := by
  obtain ⟨h1, h2, h3, h4, h5⟩ := pos_spec hE i.val
  have hT := T_lt hE i.val
  rw [v55_eq]
  show IntOp.maxsi _ (_ * _) = _
  rw [take5 m c hs hE _ (S s) (at6 m c hs hE), at45 m c hs hE, bc0, constantI_at, show (1024#32 : BitVec 32) = BitVec.ofNat 32 1024 from rfl, mul_word,
    max_word (by omega) (by omega)]
  rfl

theorem at67 (i : Fin 36) : (U12 m c main_v67 : IVec S36 32) (ix1 i) = BitVec.ofNat 32 (X s i.val) := by
  obtain ⟨h1, h2, h3, h4, h5⟩ := pos_spec hE i.val
  have hT := T_lt hE i.val
  rw [v67_eq]
  show IntOp.minsi _ ((_ + _) * _) = _
  rw [take5 m c hs hE _ (E s) (at5 m c hs hE), at45 m c hs hE, bc0, bc0, constantI_at, constantI_at, show (1024#32 : BitVec 32) = BitVec.ofNat 32 1024 from rfl,
    show (1#32 : BitVec 32) = BitVec.ofNat 32 1 from rfl, add_word, mul_word, min_word (by omega) (by omega)]
  rfl

/-- The ends of the rows. -/
theorem at71 (i : Fin 36) : (U13 m c main_v71 : IVec S36 32) (ix1 i) = BitVec.ofNat 32 (Hi s i.val) := by
  have hg := (G_spec hE i.val).1
  rw [v71_eq, select_at, v70_eq, andi_at, at23 m c hs hE, cmpi_at, at29 m c hs hE, bc0, constantI_at, at67 m c hs hE, at55 m c hs hE,
    show (4#32 : BitVec 32) = BitVec.ofNat 32 4 from rfl, cmpi_slt_ofNat (w := 32) (by omega) (by norm_num)]
  unfold Hi
  by_cases h1 : i.val < W s 4 <;> by_cases h2 : G s i.val < 4 <;> simp only [h1, h2, decide_true, decide_false, and_true, and_false, and_self, if_true, if_false] <;> rfl

/-- The experts. -/
theorem at73 (i : Fin 36) : (U14 m c main_v73 : IVec S36 32) (ix1 i) = BitVec.ofNat 32 (min (G s i.val) 3) := by
  have hg := (G_spec hE i.val).1
  rw [v73_eq]
  show IntOp.minsi _ _ = _
  rw [at29 m c hs hE, bc0, constantI_at, show (3#32 : BitVec 32) = BitVec.ofNat 32 3 from rfl, min_word (by omega) (by norm_num)]

end Cert.KernelIdeal.Run
-- ==== Proof.KernelIdeal.Ok.lean ====
/- The tables' entries as words of the schedule, and with them the side condition of the region: every block lies inside its
   array, on whole words. -/
module

public import proofs.«01_k».proof.Proof.KernelIdeal.Tables

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Idealize.ShloMosaic.WordCmp Idealize.ShloMosaic.Routing Cert.WordNat Cert.Sched

variable {s : ℕ → ℕ} (hs : ∀ e : Fin 4, (U0 m 0 main_arg4 : IVec S4 32) (ix1 e) = BitVec.ofNat 32 (s e.val)) (hE : E s 4 = 32768)

theorem tbl0_eq : (tbl m 0 : IVec S36 32) = (U12 m 0 main_v45 : IVec S36 32) := (V_eq m 0 main_v45).trans (t45_eq m 0)
theorem tbl1_eq : (tbl m 1 : IVec S36 32) = (U14 m 0 main_v73 : IVec S36 32) := V_eq m 0 main_v73
theorem tbl2_eq : (tbl m 2 : IVec S36 32) = (U12 m 0 main_v55 : IVec S36 32) := (V_eq m 0 main_v55).trans (t55_eq m 0)
theorem tbl3_eq : (tbl m 3 : IVec S36 32) = (U13 m 0 main_v71 : IVec S36 32) := (V_eq m 0 main_v71).trans (t71_eq m 0)

include hs hE in
theorem tw0 {n : ℕ} (hn : n < 36) : tw m 0 n = BitVec.ofNat 32 (T s n) := by
  refine Eq.trans ?_ (at45 m 0 hs hE ⟨n, hn⟩)
  rw [← tbl0_eq]
  refine congrArg (tbl m 0 : IVec S36 32) (funext fun a => ?_)
  rw [dif_pos hn]
  match a with | ⟨0, _⟩ => rfl

include hs hE in
theorem tw1 {n : ℕ} (hn : n < 36) : tw m 1 n = BitVec.ofNat 32 (min (G s n) 3) := by
  refine Eq.trans ?_ (at73 m 0 hs hE ⟨n, hn⟩)
  rw [← tbl1_eq]
  refine congrArg (tbl m 1 : IVec S36 32) (funext fun a => ?_)
  rw [dif_pos hn]
  match a with | ⟨0, _⟩ => rfl

include hs hE in
theorem tw2 {n : ℕ} (hn : n < 36) : tw m 2 n = BitVec.ofNat 32 (Lo s n) := by
  refine Eq.trans ?_ (at55 m 0 hs hE ⟨n, hn⟩)
  rw [← tbl2_eq]
  refine congrArg (tbl m 2 : IVec S36 32) (funext fun a => ?_)
  rw [dif_pos hn]
  match a with | ⟨0, _⟩ => rfl

include hs hE in
theorem tw3 {n : ℕ} (hn : n < 36) : tw m 3 n = BitVec.ofNat 32 (Hi s n) := by
  refine Eq.trans ?_ (at71 m 0 hs hE ⟨n, hn⟩)
  rw [← tbl3_eq]
  refine congrArg (tbl m 3 : IVec S36 32) (funext fun a => ?_)
  rw [dif_pos hn]
  match a with | ⟨0, _⟩ => rfl

include hs hE in
theorem tw0_nat {n : ℕ} (hn : n < 36) : (tw m 0 n).toNat = T s n := by
  have := T_lt hE n
  rw [tw0 m hs hE hn, BitVec.toNat_ofNat]; omega

include hs hE in
theorem tw1_nat {n : ℕ} (hn : n < 36) : (tw m 1 n).toNat = min (G s n) 3 := by
  rw [tw1 m hs hE hn, BitVec.toNat_ofNat]; omega

theorem words_rows {s : Shape} {p : ℕ} {size ix : Fin s.rank → ℕ} (h : ∀ a, (ix a + 1) * size a ≤ s.size a) (h2 : 2 ≤ s.rank)
    (hp : p ∣ size (s.rowAx h2)) : (Rect.block size ix h).WholeWords p :=
  .inl (.inr ⟨h2, rfl, .inl ⟨hp.mul_left _, hp⟩⟩)

include hs hE in
/-- The side condition holds of the schedule's tables. -/
theorem ok : Ok m := by
  have i1 : ∀ i : grid0.Coords, (i 1).val < 36 := fun i => (i 1).isLt
  have i0 : ∀ i : grid0.Coords, (i 0).val < 6 := fun i => (i 0).isLt
  refine ⟨fun i => ?_, fun i => ?_, fun i => ?_, fun i => ?_, fun i => ?_⟩
  · have ht := tw0_nat m hs hE (i1 i)
    have := T_lt hE (i 1).val
    have e : ∀ a, cc0_transform_0 k0_off1_inb numel1_S1 (tbl m) i a = _ := congrFun (ix_0 m i)
    refine ⟨fun a => ?_, .inr (words_rows _ (by decide) (by decide))⟩
    rw [e]
    match a with
    | ⟨0, _⟩ => show ((tw m 0 (i 1).val).toNat + 1) * 1024 ≤ 32768; omega
    | ⟨1, _⟩ => show (0 + 1) * 10752 ≤ 10752; omega
  · have ht := tw0_nat m hs hE (i1 i)
    have := T_lt hE (i 1).val
    have e : ∀ a, cc0_transform_1 k0_off1_inb numel1_S1 (tbl m) i a = _ := congrFun (ix_1 m i)
    refine ⟨fun a => ?_, .inl rfl⟩
    rw [e]
    match a with
    | ⟨0, _⟩ => show ((tw m 0 (i 1).val).toNat + 1) * 1024 ≤ 32768; omega
    | ⟨1, _⟩ => show (0 + 1) * 1 ≤ 1; omega
  · have ht := tw1_nat m hs hE (i1 i)
    have := i0 i
    have e : ∀ a, cc0_transform_2 k0_off1_inb numel1_S1 (tbl m) i a = _ := congrFun (ix_2 m i)
    refine ⟨fun a => ?_, .inr (words_rows _ (by decide) (by decide))⟩
    rw [e]
    match a with
    | ⟨0, _⟩ => show ((tw m 1 (i 1).val).toNat + 1) * 1 ≤ 4; omega
    | ⟨1, _⟩ => show (0 + 1) * 10752 ≤ 10752; omega
    | ⟨2, _⟩ => show ((i 0).val + 1) * 1024 ≤ 6144; omega
  · have ht := tw1_nat m hs hE (i1 i)
    have := i0 i
    have e : ∀ a, cc0_transform_3 k0_off1_inb numel1_S1 (tbl m) i a = _ := congrFun (ix_3 m i)
    refine ⟨fun a => ?_, .inl rfl⟩
    rw [e]
    match a with
    | ⟨0, _⟩ => show ((tw m 1 (i 1).val).toNat + 1) * 1 ≤ 4; omega
    | ⟨1, _⟩ => show (0 + 1) * 1 ≤ 1; omega
    | ⟨2, _⟩ => show ((i 0).val + 1) * 1024 ≤ 6144; omega
  · have ht := tw0_nat m hs hE (i1 i)
    have := T_lt hE (i 1).val
    have := i0 i
    have e : ∀ a, cc0_transform_4 k0_off1_inb numel1_S1 (tbl m) i a = _ := congrFun (ix_4 m i)
    refine ⟨fun a => ?_, .inr (words_rows _ (by decide) (by decide))⟩
    rw [e]
    match a with
    | ⟨0, _⟩ => show ((tw m 0 (i 1).val).toNat + 1) * 1024 ≤ 32768; omega
    | ⟨1, _⟩ => show ((i 0).val + 1) * 1024 ≤ 6144; omega

end Cert.KernelIdeal.Run
-- ==== Proof.KernelIdeal.Trace.lean ====
/- What the output's staging buffer holds after each grid point, by recursion over the points, and the facts that make the
   recursion the pipeline's: a tile's first visit forgets what the buffer held, a later visit finds what the visit before left. -/
module

public import proofs.«01_k».proof.Proof.KernelIdeal.Words

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's step at point `i` over the tables' words. -/
def stepT (i : grid0.Coords) (x0 : Vec F S1024x10752 .fp8e4m3) (x1 : Vec F S1024x1 .f32)
    (x2 : Vec F S1x10752x1024 .fp8e4m3) (x3 : Vec F S1x1x1024 .f32) (y : Vec F S1024x1024 .bf16) : Vec F S1024x1024 .bf16 :=
  stepW i (tw m 0 (i 1).val) (tw m 2 (i 1).val) (tw m 3 (i 1).val) (tw m 0 ((i 1).val - 1)) x0 x1 x2 x3 y

theorem stepW_words (c : Dev nD) (i : grid0.Coords) (x0 : Vec F S1024x10752 .fp8e4m3) (x1 : Vec F S1024x1 .f32)
    (x2 : Vec F S1x10752x1024 .fp8e4m3) (x3 : Vec F S1x1x1024 .f32) (y : Vec F S1024x1024 .bf16) :
    stepW i (wordAt c tbM0 (k0_off1 i) (k0_off1_inb i) (tbl m 0)) (wordAt c tbM2 (k0_off1 i) (k0_off1_inb i) (tbl m 2))
      (wordAt c tbM3 (k0_off1 i) (k0_off1_inb i) (tbl m 3)) (wordAt c tbM0 (k0_off2 i) (k0_off2_inb i) (tbl m 0)) x0 x1 x2 x3 y
      = stepT m i x0 x1 x2 x3 y := by
  rw [word0_1, word0_2, word2_1, word3_1]; rfl

/-- Where a tile is first visited the step does not read the buffer. -/
theorem stepT_first (i : grid0.Coords) (h : (i 1).val = 0 ∨ tw m 0 ((i 1).val - 1) ≠ tw m 0 (i 1).val) (x0) (x1) (x2) (x3)
    (y y' : Vec F S1024x1024 .bf16) : stepT m i x0 x1 x2 x3 y = stepT m i x0 x1 x2 x3 y' := by
  have h1 := (cond1_iff i (tw m 0 (i 1).val) (tw m 0 ((i 1).val - 1))).mpr h
  unfold stepT stepW
  rw [if_pos h1, if_pos h1]

/-- Where the output is idle the step leaves the buffer. -/
theorem stepT_idle (i : grid0.Coords) (h : idle0 (tbl m) 4 i = true) (x0) (x1) (x2) (x3) (y : Vec F S1024x1024 .bf16) :
    stepT m i x0 x1 x2 x3 y = y := by
  obtain ⟨h1, h2⟩ := (idle4_iff m i).mp h
  rw [← cond1_iff] at h1; rw [← cond2_iff] at h2
  unfold stepT stepW
  rw [if_neg h2, if_neg h1]

/-- The step at point `t` over the blocks there. -/
def stepP (hO : Ok m) (c : Dev nD) (t : Fin (cfgM m hO).N) (y : Vec F S1024x1024 .bf16) : Vec F S1024x1024 .bf16 :=
  stepT m (grid0.coords t) (iblk m hO c 0 t) (iblk m hO c 1 t) (iblk m hO c 2 t) (iblk m hO c 3 t) y

/-- What the output's staging buffer holds after point `n`. -/
def outN (hO : Ok m) (c : Dev nD) : ℕ → Vec F S1024x1024 .bf16
  | 0 => stepP m hO c ⟨0, (by decide : 0 < grid0.N)⟩ (k0_pay1 (F := F))
  | n + 1 => if h : n + 1 < grid0.N then stepP m hO c ⟨n + 1, h⟩ (outN hO c n) else outN hO c n

theorem outN_succ (hO : Ok m) (c : Dev nD) (n : ℕ) (h : n + 1 < grid0.N) :
    outN m hO c (n + 1) = stepP m hO c ⟨n + 1, h⟩ (outN m hO c n) := by
  rw [outN, dif_pos h]

/-- A point that is not its tile's first is not the first of its column band, and its tile is the one before's. -/
theorem not_first {n : ℕ} (h : n + 1 < grid0.N)
    (h1 : ¬ ((grid0.coords ⟨n + 1, h⟩ 1).val = 0 ∨ tw m 0 ((grid0.coords ⟨n + 1, h⟩ 1).val - 1) ≠ tw m 0 (grid0.coords ⟨n + 1, h⟩ 1).val)) :
    ix0 (tbl m) 4 (grid0.coords ⟨n + 1, h⟩) = ix0 (tbl m) 4 (grid0.coords ⟨n, Nat.lt_of_succ_lt h⟩) := by
  have e := coords_eq ⟨n + 1, h⟩
  have e' := coords_eq ⟨n, Nat.lt_of_succ_lt h⟩
  simp only at e e'
  rw [not_or, not_ne_iff] at h1
  have a : (grid0.coords ⟨n, Nat.lt_of_succ_lt h⟩ 1).val = (grid0.coords ⟨n + 1, h⟩ 1).val - 1 := by omega
  have b : (grid0.coords ⟨n, Nat.lt_of_succ_lt h⟩ 0).val = (grid0.coords ⟨n + 1, h⟩ 0).val := by omega
  rw [ix_4, ix_4, a, b, h1.2]

theorem flush4_of (hO : Ok m) (n : ℕ) (h : n + 1 < grid0.N)
    (he : ix0 (tbl m) 4 (grid0.coords ⟨n + 1, h⟩) = ix0 (tbl m) 4 (grid0.coords ⟨n, Nat.lt_of_succ_lt h⟩)) :
    ((cfgM m hO).win (4 : Fin 5)).flush ⟨n, Nat.lt_of_succ_lt h⟩ = false := by
  rw [Pipeline.Window.flush_eq_flushOf]
  unfold Pipeline.Window.flushOf
  rw [Bool.and_eq_false_iff]; right
  rw [Bool.or_eq_false_iff]
  refine ⟨decide_eq_false (fun e => ?_), decide_eq_false ?_⟩
  · have : n + 1 = grid0.N := e
    omega
  · rintro ⟨h', hne⟩
    exact hne he

/-- The buffer is not fresh at a point that is not its tile's first. -/
theorem fresh4 (hO : Ok m) : ∀ (n : ℕ) (h : n < grid0.N),
    ¬ ((grid0.coords ⟨n, h⟩ 1).val = 0 ∨ tw m 0 ((grid0.coords ⟨n, h⟩ 1).val - 1) ≠ tw m 0 (grid0.coords ⟨n, h⟩ 1).val) →
    (cfgM m hO).fresh (4 : Fin 5) n = false
  | 0, h, h1 => absurd (Or.inl ((coords_eq ⟨0, h⟩).2.trans (Nat.zero_mod _))) h1
  | n + 1, h, h1 => by
    rw [Pipeline.Cfg.fresh_succ (cfgM m hO) (4 : Fin 5) n (Nat.lt_of_succ_lt h), flush4_of m hO n h (not_first m h h1), Bool.false_or]
    cases hi : (cfgM m hO).idle (4 : Fin 5) ((cfgM m hO).grid.coords ⟨n, Nat.lt_of_succ_lt h⟩)
    · rfl
    · rw [Bool.true_and]
      exact fresh4 hO n (Nat.lt_of_succ_lt h) (((idle4_iff m _).mp ((idle4_M m hO _).symm.trans hi)).1)

end Cert.KernelIdeal.Run

end
-- ==== Proof.KernelIdeal.Run.lean ====
/- The region's run: the proof data over the recursion, the body obligation at a generic point, the launch. -/
module

public import proofs.«01_k».proof.Proof.KernelIdeal.Trace

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`: the arrays as the region finds them; after the body at point `t` each
    input's buffer at its block, the output's at the recursion's value. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outN m hO c t.val
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after (0 : Fin 5) t = iblk m hO c 0 t := by dsimp only [dats]; try rfl
theorem after_1 (hO : Ok m) (c : Dev nD) (t : Fin (cfgM m hO).N) : (dats m hO 0 c).after (1 : Fin 5) t = iblk m hO c 1 t := by dsimp only [dats]; try rfl
theorem after_2 (hO : Ok m) (c : Dev nD) (t : Fin (cfgM m hO).N) : (dats m hO 0 c).after (2 : Fin 5) t = iblk m hO c 2 t := by dsimp only [dats]; try rfl
theorem after_3 (hO : Ok m) (c : Dev nD) (t : Fin (cfgM m hO).N) : (dats m hO 0 c).after (3 : Fin 5) t = iblk m hO c 3 t := by dsimp only [dats]; try rfl
theorem after_4 (hO : Ok m) (c : Dev nD) (t : Fin (cfgM m hO).N) : (dats m hO 0 c).after (4 : Fin 5) t = outN m hO c t.val := by dsimp only [dats]; try rfl

theorem before_0 (hO : Ok m) (c : Dev nD) (t : Fin (cfgM m hO).N) (d) : (dats m hO 0 c).before (0 : Fin 5) t d = iblk m hO c 0 t :=
  before0_of m hO (dats m hO 0 c) (A_eq m hO c 0) (after_0 m hO c) t d
theorem before_1 (hO : Ok m) (c : Dev nD) (t : Fin (cfgM m hO).N) (d) : (dats m hO 0 c).before (1 : Fin 5) t d = iblk m hO c 1 t :=
  before1_of m hO (dats m hO 0 c) (A_eq m hO c 1) (after_1 m hO c) t d
theorem before_2 (hO : Ok m) (c : Dev nD) (t : Fin (cfgM m hO).N) (d) : (dats m hO 0 c).before (2 : Fin 5) t d = iblk m hO c 2 t :=
  before2_of m hO (dats m hO 0 c) (A_eq m hO c 2) (after_2 m hO c) t d
theorem before_3 (hO : Ok m) (c : Dev nD) (t : Fin (cfgM m hO).N) (d) : (dats m hO 0 c).before (3 : Fin 5) t d = iblk m hO c 3 t :=
  before3_of m hO (dats m hO 0 c) (A_eq m hO c 3) (after_3 m hO c) t d

/-- Where the output is idle the recursion carries the point before's contents. -/
theorem outN_idle (hO : Ok m) (c : Dev nD) (n : ℕ) (h : n + 1 < grid0.N)
    (hi : (cfgM m hO).idle (4 : Fin 5) ((cfgM m hO).grid.coords ⟨n + 1, h⟩) = true) : outN m hO c (n + 1) = outN m hO c n := by
  rw [outN_succ m hO c n h]
  exact stepT_idle m _ ((idle4_M m hO _).symm.trans hi) _ _ _ _ _

/-- What the body finds in the output's buffer at a point that is not fresh: what the recursion says of the point before. -/
theorem before_4 (hO : Ok m) (c : Dev nD) (t : Fin (cfgM m hO).N) (d) (hf : (cfgM m hO).fresh (4 : Fin 5) t.val = false) :
    (dats m hO 0 c).before (4 : Fin 5) t d = outN m hO c (t.val - 1) := by
  rw [Pipeline.Dat.before_out_traj (dats m hO 0 c) (4 : Fin 5) rfl (fun _ _ => rfl) ?_ t.val t rfl d, hf]
  · exact after_4 m hO c _
  · rintro ⟨n, hn⟩ h0 hi _
    obtain ⟨k, rfl⟩ := Nat.exists_eq_succ_of_ne_zero h0
    rw [after_4, after_4]
    exact outN_idle m hO c k hn hi

/-- The step over what the body finds is the recursion's value. -/
theorem step_before (hO : Ok m) (c : Dev nD) : ∀ (t : Fin (cfgM m hO).N) (d),
    stepP m hO c t ((dats m hO 0 c).before (4 : Fin 5) t d) = outN m hO c t.val
  | ⟨0, h⟩, d => by
    rw [outN]
    exact stepT_first m _ (Or.inl ((coords_eq ⟨0, h⟩).2.trans (Nat.zero_mod _))) _ _ _ _ _ _
  | ⟨n + 1, h⟩, d => by
    rw [outN_succ m hO c n h]
    by_cases h1 : ((grid0.coords ⟨n + 1, h⟩ 1).val = 0 ∨ tw m 0 ((grid0.coords ⟨n + 1, h⟩ 1).val - 1) ≠ tw m 0 (grid0.coords ⟨n + 1, h⟩ 1).val)
    · exact stepT_first m _ h1 _ _ _ _ _ _
    · rw [before_4 m hO c ⟨n + 1, h⟩ d (fresh4 m hO (n + 1) h h1)]
      rfl

/-! ## The body obligation -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before (0 : Fin 5) t d))
    ∗ (∃ d, owns (c : Thread nD τ) (ms1 m hO t) fullShare ((dats m hO 0 c).before (1 : Fin 5) t d))
    ∗ (∃ d, owns (c : Thread nD τ) (ms2 m hO t) fullShare ((dats m hO 0 c).before (2 : Fin 5) t d))
    ∗ (∃ d, owns (c : Thread nD τ) (ms3 m hO t) fullShare ((dats m hO 0 c).before (3 : Fin 5) t d))
    ∗ (∃ d, owns (c : Thread nD τ) (ms4 m hO t) fullShare ((dats m hO 0 c).before (4 : Fin 5) t d)))

/-- how it leaves the output's buffer, -/
def leaves4 (hO : Ok m) (c : Dev nD) (t : Fin (cfgM m hO).N) : sProp 𝕄 :=
  match (cfgM m hO).idle (4 : Fin 5) ((cfgM m hO).grid.coords t) with
  | true =>
    match ((cfgM m hO).win (4 : Fin 5)).flush t with
    | false => iprop(∃ d, owns (c : Thread nD τ) (ms4 m hO t) fullShare ((dats m hO 0 c).before (4 : Fin 5) t d))
    | true => owns (c : Thread nD τ) (ms4 m hO t) fullShare ((dats m hO 0 c).after (4 : Fin 5) t)
  | false => owns (c : Thread nD τ) (ms4 m hO t) fullShare ((dats m hO 0 c).after (4 : Fin 5) t)

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after (0 : Fin 5) t)
    ∗ owns (c : Thread nD τ) (ms1 m hO t) fullShare ((dats m hO 0 c).after (1 : Fin 5) t)
    ∗ owns (c : Thread nD τ) (ms2 m hO t) fullShare ((dats m hO 0 c).after (2 : Fin 5) t)
    ∗ owns (c : Thread nD τ) (ms3 m hO t) fullShare ((dats m hO 0 c).after (3 : Fin 5) t)
    ∗ leaves4 m hO c t)

/-- The step's result is the buffer as the obligation wants it left. -/
theorem leaves4_of (hO : Ok m) (c : Dev nD) (t : Fin (cfgM m hO).N) (d) :
    (owns (c : Thread nD τ) (ms4 m hO t) fullShare (stepP m hO c t ((dats m hO 0 c).before (4 : Fin 5) t d)) : sProp 𝕄) ⊢ leaves4 m hO c t := by
  unfold leaves4
  cases hi : (cfgM m hO).idle (4 : Fin 5) ((cfgM m hO).grid.coords t)
  · dsimp only
    rw [after_4, step_before]
  · cases hf : ((cfgM m hO).win (4 : Fin 5)).flush t
    · dsimp only
      rw [show stepP m hO c t ((dats m hO 0 c).before (4 : Fin 5) t d) = (dats m hO 0 c).before (4 : Fin 5) t d from
        stepT_idle m _ ((idle4_M m hO _).symm.trans hi) _ _ _ _ _]
      iintro H; iexists d; iexact H
    · dsimp only
      rw [after_4, step_before]

/-- `leaves4_of` over the words as the body's triple spells them. -/
theorem leaves4_words (hO : Ok m) (c : Dev nD) (t : Fin (cfgM m hO).N) (d) :
    (owns (c : Thread nD τ) (ms4 m hO t) fullShare
      (stepW (grid0.coords t) (wordAt c tbM0 (k0_off1 (grid0.coords t)) (k0_off1_inb (grid0.coords t)) (tbl m 0))
        (wordAt c tbM2 (k0_off1 (grid0.coords t)) (k0_off1_inb (grid0.coords t)) (tbl m 2))
        (wordAt c tbM3 (k0_off1 (grid0.coords t)) (k0_off1_inb (grid0.coords t)) (tbl m 3))
        (wordAt c tbM0 (k0_off2 (grid0.coords t)) (k0_off2_inb (grid0.coords t)) (tbl m 0))
        (iblk m hO c 0 t) (iblk m hO c 1 t) (iblk m hO c 2 t) (iblk m hO c 3 t) ((dats m hO 0 c).before (4 : Fin 5) t d)) : sProp 𝕄)
      ⊢ leaves4 m hO c t :=
  (Entails.of_eq (congrArg (fun x => owns (c : Thread nD τ) (ms4 m hO t) fullShare x)
    (stepW_words m c (grid0.coords t) (iblk m hO c 0 t) (iblk m hO c 1 t) (iblk m hO c 2 t) (iblk m hO c 3 t) _))).trans
    (leaves4_of m hO c t d)

set_option maxHeartbeats 1000000 in
/-- The body at any point. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before_0, before_1, before_2, before_3]
  rw [show (dats m hO 0 c).Φ t.succ = (dats m hO 0 c).Φ t.castSucc from rfl,
    show (dats m hO 0 c).owesAt () t.succ = (dats m hO 0 c).owesAt () t.castSucc from rfl,
    after_0, after_1, after_2, after_3]
  rw [show (dats m hO 0 c).Φ t.castSucc = iprop(Pipeline.ΦA spec0 c ∗ Pipeline.ΦT pre0 (tbl m) c) from rfl, PhiT_eq]
  iintro ⟨⟨HΦ, HT⟩, Ho, ⟨%d0, H0⟩, ⟨%d1, H1⟩, ⟨%d2, H2⟩, ⟨%d3, H3⟩, ⟨%d4, H4⟩⟩
  iapply (body_run c (grid0.coords t) _ _ _ _ _ _ _ _ _ _ (iblk m hO c 0 t) (iblk m hO c 1 t) (iblk m hO c 2 t) (iblk m hO c 3 t)
    ((dats m hO 0 c).before (4 : Fin 5) t d4) (tbl m 0) (tbl m 1) (tbl m 2) (tbl m 3) Set.univ _)
  isplitl [H0]; · iexact H0
  isplitl [H1]; · iexact H1
  isplitl [H2]; · iexact H2
  isplitl [H3]; · iexact H3
  isplitl [H4]; · iexact H4
  isplitl [HT]; · iexact HT
  iintro ⟨H0, H1, H2, H3, H4, HT⟩
  isplitl [HΦ HT]
  · isplitl [HΦ]
    · iexact HΦ
    iexact HT
  isplitl [Ho]; · iexact Ho
  isplitl [H0]; · iexact H0
  isplitl [H1]; · iexact H1
  isplitl [H2]; · iexact H2
  isplitl [H3]; · iexact H3
  ihave H4' := (leaves4_words m hO c t d4) $$ H4
  iexact H4'

/-- The library's body obligation, at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The launch -/

variable (ρ : Dev nD → PrngReg)

set_option backward.isDefEq.respectTransparency.types false in
/-- Every weakly fair execution terminates with the windows' arrays at what the write-backs leave, every other unscoped
    buffer at what the region found, and every counter at zero. -/
theorem run_main_quiescent (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

end Cert.KernelIdeal.Run

end
-- ==== Proof.KernelIdeal.Frame.lean ====
/- The run of the whole program, read at its arguments and its result: the arguments end unchanged, the result is what the
   write-backs of the output window leave, and every counter is at zero. -/
module

public import proofs.«01_k».proof.Proof.KernelIdeal.Ok
public import proofs.«01_k».proof.Proof.KernelIdeal.Run
public import proofs.«01_k».proof.Proof.Pre

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Idealize.ShloMosaic.Routing Cert.Sched

theorem run_result (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v76) = (dats m hO 0 c).arrAt (4 : Fin 5) (cfgM m hO).N)
      ∧ r.2.sem = fun _ => 0) :=
  (θ_run defs _ _).mono (fun _ h => ⟨fun c => ⟨((h.1 c).1 (0 : Fin 5)).trans (((dats m hO 0 c).arrAt_in (0 : Fin 5) rfl _).trans ((A_eq m hO c (0 : Fin 5)).trans ((V_eq m c main_arg0).trans (arg0_eq m c)))),
      ((h.1 c).2 main_arg1 (Pipeline.mem_restRefs_of main_arg1 (by decide) (fun w => (by decide : ∀ w : Fin 5, (spec0 w).arr.view.ref ≠ main_arg1) w))).trans ((V_eq m c main_arg1).trans (arg1_eq m c)),
      ((h.1 c).1 (2 : Fin 5)).trans (((dats m hO 0 c).arrAt_in (2 : Fin 5) rfl _).trans ((A_eq m hO c (2 : Fin 5)).trans ((V_eq m c main_arg2).trans (arg2_eq m c)))),
      ((h.1 c).2 main_arg3 (Pipeline.mem_restRefs_of main_arg3 (by decide) (fun w => (by decide : ∀ w : Fin 5, (spec0 w).arr.view.ref ≠ main_arg3) w))).trans ((V_eq m c main_arg3).trans (arg3_eq m c)),
      ((h.1 c).2 main_arg4 (Pipeline.mem_restRefs_of main_arg4 (by decide) (fun w => (by decide : ∀ w : Fin 5, (spec0 w).arr.view.ref ≠ main_arg4) w))).trans ((V_eq m c main_arg4).trans (arg4_eq m c)),
      (h.1 c).1 (4 : Fin 5)⟩, h.2⟩) (run_main_quiescent m ρ hO)

/-- The arguments end unchanged and every counter is at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1, (h.1 c).2.1, (h.1 c).2.2.1, (h.1 c).2.2.2.1, (h.1 c).2.2.2.2.1⟩, h.2⟩) (run_result m ρ hO)

/-- The group sizes of the launch, as naturals. -/
def sz : ℕ → ℕ := Cert.Pre.sizes (m ((0 : Dev nD), main_arg4) : IVec S4 32)

theorem sz_at (e : Fin 4) : (U0 m 0 main_arg4 : IVec S4 32) (ix1 e) = BitVec.ofNat 32 (sz m e.val) := Cert.Pre.sizes_at _ e

/-- Sizes that fit fill the 32768 rows together with the rows left over. -/
theorem sz_full [Cert.Pre_sizes_fit.Facts] (h : ∀ c : Dev nD, Cert.Pre_sizes_fit.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) = fun _ => 1#1) : E (sz m) 4 = 32768 :=
  Cert.Pre.sizes_full _ _ _ _ _ (h 0)

theorem ok_of_pre [Cert.Pre_sizes_fit.Facts] (h : ∀ c : Dev nD, Cert.Pre_sizes_fit.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) = fun _ => 1#1) : Ok m :=
  ok m (sz_at m) (sz_full m h)

end Cert.KernelIdeal.Run
-- ==== Proof.Mask.lean ====
/- Selecting by a row's word: at or past a bound, and inside a range, in natural numbers. -/
module

public import proofs.«01_k».proof.Proof.WordNat
public import Idealize.ShloMosaic.Lib.Affine

@[expose] public section

namespace Cert.WordNat

open Idealize.ShloMosaic Idealize.ShloMosaic.WordCmp

theorem sel_of {α : Type} {b : BitVec 1} {p : Prop} [Decidable p] (h : b = 1#1 ↔ p) (u v : α) : Scalar.select b u v = if p then u else v := by
  by_cases hp : p
  · rw [if_pos hp, h.2 hp, select_one]
  · rw [if_neg hp, Idealize.ShloMosaic.ValueIdx.eq_zero_of_ne_one (fun h' => hp (h.1 h')), select_zero]

theorem sel_ge {α : Type} {n a : ℕ} (hn : n < 2 ^ 31) (ha : a < 2 ^ 31) (u v : α) :
    Scalar.select (IntOp.cmpi .sge (BitVec.ofNat 32 n) (BitVec.ofNat 32 a)) u v = if a ≤ n then u else v :=
  sel_of (cmpi_sge_ofNat_eq_one_iff (w := 32) hn ha) u v

theorem sel_range {α : Type} {n a b : ℕ} (hn : n < 2 ^ 31) (ha : a < 2 ^ 31) (hb : b < 2 ^ 31) (u v : α) :
    Scalar.select (IntOp.andi (IntOp.cmpi .sge (BitVec.ofNat 32 n) (BitVec.ofNat 32 a)) (IntOp.cmpi .slt (BitVec.ofNat 32 n) (BitVec.ofNat 32 b))) u v
      = if a ≤ n ∧ n < b then u else v := by
  refine sel_of ?_ u v
  rw [IntOp.andi_eq_one, cmpi_sge_ofNat_eq_one_iff (w := 32) hn ha, cmpi_slt_ofNat_eq_one_iff (w := 32) hn hb]

end Cert.WordNat
-- ==== Proof.KernelIdeal.Pay.lean ====
/- The kernel's stored block, entry by entry, over the extended reals. -/
module

public import proofs.«01_k».proof.Proof.Gen.KernelIdeal.Skeleton
public import proofs.«01_k».proof.Proof.Mask
public import Idealize.ShloMosaic.Lib.ValueIdx
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.WordCmp Idealize.ShloMosaic.Routing Cert.WordNat

theorem pay1_at (i : S1024x1024.Idx) : (k0_pay1 (F := Ideal) i : EReal) = 0 := by
  unfold k0_pay1
  pointwise

theorem pay2_at {t a b : ℕ} (ht : t < 32) (ha : a < 2 ^ 31) (hb : b < 2 ^ 31) (x : Vec Ideal S1024x10752 .fp8e4m3) (w : Vec Ideal S1x10752x1024 .fp8e4m3)
    (xs : Vec Ideal S1024x1 .f32) (ws : Vec Ideal S1x1x1024 .f32) (y : Vec Ideal S1024x1024 .bf16) (r q : Fin 1024) :
    (k0_pay2 (F := Ideal) (BitVec.ofNat 32 t) (BitVec.ofNat 32 a) (BitVec.ofNat 32 b) x w xs ws y (ix2 r q) : EReal) =
    if a ≤ t * 1024 + r.val ∧ t * 1024 + r.val < b
    then (∑ k : Fin 10752, (x (ix2 r k) : EReal) * (w (ix3 0 k q) : EReal)) * ((xs (ix2 r 0) : EReal) * (ws (ix3 0 0 q) : EReal)) else y (ix2 r q) := by
  unfold k0_pay2
  pointwise
  have e : IntOp.addi (Scalar.muli (BitVec.ofNat 32 t) 1024#32) (BitVec.ofNat 32 r.val) = BitVec.ofNat 32 (t * 1024 + r.val) :=
    (congrArg (· + BitVec.ofNat 32 r.val) (mul_word t 1024)).trans (add_word _ _)
  rw [e, sel_range (by have := r.isLt; omega) ha hb]

end Cert.KernelIdeal.Run
-- ==== Proof.Spec.lean ====
/- What the result holds, entry by entry: the entry of the product of the rows with their group's weights, times the
   row's and the column's scales; zero in the rows that no group claims. -/
module

public import proofs.«01_k».proof.Proof.Sched
public import Idealize.ShloMosaic.Lib.ValueIdx
public import Idealize.ShloMosaic.Lib.Pointwise

@[expose] public section

noncomputable section

namespace Cert.Spec

open Idealize.ShloMosaic Cert.Sched

abbrev XT := FVec Ideal (⟨2, ![32768, 10752]⟩ : Shape) .fp8e4m3
abbrev XST := FVec Ideal (⟨1, ![32768]⟩ : Shape) .f32
abbrev WT := FVec Ideal (⟨3, ![4, 10752, 6144]⟩ : Shape) .fp8e4m3
abbrev WST := FVec Ideal (⟨2, ![4, 6144]⟩ : Shape) .f32

/-- Entry `(R, C)` of the product with group `e`'s weights, scaled. -/
def Z (x : XT) (xs : XST) (w : WT) (ws : WST) (e : Fin 4) (R : Fin 32768) (C : Fin 6144) : EReal :=
  (∑ k : Fin 10752, (x (ix2 R k) : EReal) * (w (ix3 e k C) : EReal)) * ((xs (ix1 R) : EReal) * (ws (ix2 e C) : EReal))

/-- The group that row `R` lies in; 4 where no group claims it. -/
def grp (s : ℕ → ℕ) (R : ℕ) : ℕ :=
  if R < E s 0 then 0 else if R < E s 1 then 1 else if R < E s 2 then 2 else if R < E s 3 then 3 else 4

/-- The result's entry `(R, C)`. -/
def Y (s : ℕ → ℕ) (x : XT) (xs : XST) (w : WT) (ws : WST) (R : Fin 32768) (C : Fin 6144) : EReal :=
  if h : grp s R.val < 4 then Z x xs w ws ⟨grp s R.val, h⟩ R C else 0

/-- The result. -/
def YA (s : ℕ → ℕ) (x : XT) (xs : XST) (w : WT) (ws : WST) : FVec Ideal (⟨2, ![32768, 6144]⟩ : Shape) .bf16 := fun i => Y s x xs w ws (i 0) (i 1)

theorem Y_of (s : ℕ → ℕ) (x : XT) (xs : XST) (w : WT) (ws : WST) (R : Fin 32768) (C : Fin 6144) (e : Fin 4) (h : grp s R.val = e.val) :
    Y s x xs w ws R C = Z x xs w ws e R C := by
  have hl : grp s R.val < 4 := by omega
  unfold Y
  rw [dif_pos hl, show (⟨grp s R.val, hl⟩ : Fin 4) = e from Fin.ext h]

theorem Y_none (s : ℕ → ℕ) (x : XT) (xs : XST) (w : WT) (ws : WST) (R : Fin 32768) (C : Fin 6144) (h : E s 3 ≤ R.val) : Y s x xs w ws R C = 0 := by
  have m1 := E_mono s (show 0 ≤ 3 by omega)
  have m2 := E_mono s (show 1 ≤ 3 by omega)
  have m3 := E_mono s (show 2 ≤ 3 by omega)
  refine dif_neg ?_
  unfold grp
  rw [if_neg (by omega), if_neg (by omega), if_neg (by omega), if_neg (by omega)]
  omega

theorem grp_eq (s : ℕ → ℕ) {g R : ℕ} (hg : g ≤ 4) (h1 : S s g ≤ R) (h2 : R < E s g) : grp s R = g := by
  have m1 := E_mono s (show 0 ≤ 1 by omega)
  have m2 := E_mono s (show 1 ≤ 2 by omega)
  have m3 := E_mono s (show 2 ≤ 3 by omega)
  have s1 := S_succ s 0
  have s2 := S_succ s 1
  have s3 := S_succ s 2
  have s4 := S_succ s 3
  norm_num at s1 s2 s3 s4
  unfold grp
  interval_cases g <;> split_ifs <;> omega

end Cert.Spec
-- ==== Proof.KernelIdeal.Emb.lean ====
/- Where an entry of a block lies in its array: the block index times the block size, plus the entry. -/
module

public import proofs.«01_k».proof.Proof.KernelIdeal.Frame
public import proofs.«01_k».proof.Proof.KernelIdeal.Pay
public import proofs.«01_k».proof.Proof.Spec
public import Idealize.ShloMosaic.Lib.Pipeline.ValueKit.Geometry

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Sched Cert.Spec

section Any
variable (a : (pcfg0 (F := F)).Adm) (t : Fin (cfg0 a).N)

theorem emb0 (y : (((cfg0 a).win 0).xblock ((cfg0 a).grid.coords t)).Idx) (x : Fin 2) :
    ((((cfg0 a).win 0).blk t).view.emb y x).val = ix0 a.1 0 (grid0.coords t) x * S1024x10752.size x + (y x).val :=
  ValueKit.rect_emb_unit_val _ _ _ y x
theorem emb1 (y : (((cfg0 a).win 1).xblock ((cfg0 a).grid.coords t)).Idx) (x : Fin 2) :
    ((((cfg0 a).win 1).blk t).view.emb y x).val = ix0 a.1 1 (grid0.coords t) x * S1024x1.size x + (y x).val :=
  ValueKit.rect_emb_unit_val _ _ _ y x
theorem emb2 (y : (((cfg0 a).win 2).xblock ((cfg0 a).grid.coords t)).Idx) (x : Fin 3) :
    ((((cfg0 a).win 2).blk t).view.emb y x).val = ix0 a.1 2 (grid0.coords t) x * S1x10752x1024.size x + (y x).val :=
  ValueKit.rect_emb_unit_val _ _ _ y x
theorem emb3 (y : (((cfg0 a).win 3).xblock ((cfg0 a).grid.coords t)).Idx) (x : Fin 3) :
    ((((cfg0 a).win 3).blk t).view.emb y x).val = ix0 a.1 3 (grid0.coords t) x * S1x1x1024.size x + (y x).val :=
  ValueKit.rect_emb_unit_val _ _ _ y x
theorem emb4 (y : (((cfg0 a).win 4).xblock ((cfg0 a).grid.coords t)).Idx) (x : Fin 2) :
    ((((cfg0 a).win 4).blk t).view.emb y x).val = ix0 a.1 4 (grid0.coords t) x * S1024x1024.size x + (y x).val :=
  ValueKit.rect_emb_unit_val _ _ _ y x

/-- An index of the output array inside a point's block, by its two coordinates. -/
theorem mem4 (i : S32768x6144.Idx) (h : ∀ x, ix0 a.1 4 (grid0.coords t) x * S1024x1024.size x ≤ (i x).val
      ∧ (i x).val < ix0 a.1 4 (grid0.coords t) x * S1024x1024.size x + S1024x1024.size x) : i ∈ (((cfg0 a).win 4).blk t).view.set := by
  have y : ∀ x, (i x).val - ix0 a.1 4 (grid0.coords t) x * S1024x1024.size x < S1024x1024.size x := fun x => by have := h x; omega
  have e : (((cfg0 a).win 4).blk t).view.emb (fun x => ⟨_, y x⟩) = i :=
    funext fun x => Fin.ext ((emb4 a t _ x).trans (Nat.add_sub_of_le (h x).1))
  exact e ▸ (((cfg0 a).win 4).blk t).view.emb_mem_set _

/-- The output array in the end, from what the flushed points leave and from every index being in a flushed block. -/
theorem arr4_of (c : Dev nD) (dat : Dat τ (Elt F) Unit ℕ (UR sig nD τ) ℕ (cfg0 a) c) (A : Vec F S32768x6144 .bf16)
    (h : ∀ t : Fin (cfg0 a).N, ((cfg0 a).win 4).flush t = true → ∀ (y : S1024x1024.Idx) (i : S32768x6144.Idx),
      (∀ x : Fin 2, (i x).val = ix0 a.1 4 (grid0.coords t) x * S1024x1024.size x + (y x).val) → (dat.after 4 t : Vec F S1024x1024 .bf16) y = A i)
    (hc : ∀ i : S32768x6144.Idx, ∃ t : Fin (cfg0 a).N, ((cfg0 a).win 4).flush t = true ∧ ∀ x : Fin 2,
      ix0 a.1 4 (grid0.coords t) x * S1024x1024.size x ≤ (i x).val ∧ (i x).val < ix0 a.1 4 (grid0.coords t) x * S1024x1024.size x + S1024x1024.size x) :
    dat.arrAt 4 (cfg0 a).N = A :=
  dat.arrAt_eq_of_emb 4 A (fun t hf y => h t hf (((cfg0 a).win 4).xinj ((cfg0 a).grid.coords t) y) ((((cfg0 a).win 4).blk t).view.emb y) fun x => emb4 a t y x)
    fun i => (hc i).elim fun t ht => ⟨t, ht.1, mem4 a t i ht.2⟩

end Any

end Cert.KernelIdeal.Run
-- ==== Proof.KernelIdeal.Blocks.lean ====
/- The blocks a point reads, entry by entry: rows of the point's tile, columns of its band, its group's weights. -/
module

public import proofs.«01_k».proof.Proof.KernelIdeal.Frame
public import proofs.«01_k».proof.Proof.KernelIdeal.Emb
public import proofs.«01_k».proof.Proof.Spec
public import Idealize.ShloMosaic.Lib.Pipeline.ValueKit.Geometry

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Sched Cert.Spec

variable (hO : Ok m) (c : Dev nD) (t : Fin (cfgM m hO).N)

theorem iblk0_at (r : Fin 1024) (k : Fin 10752) (R : Fin 32768) (hR : R.val = (tw m 0 (grid0.coords t 1).val).toNat * 1024 + r.val) :
    iblk m hO c 0 t (ix2 r k) = V m c main_arg0 (ix2 R k) := by
  refine congrArg (V m c main_arg0) (funext fun a => Fin.ext ((emb0 (adm m hO) t (ix2 r k) a).trans ?_))
  have e : ix0 (adm m hO).1 0 (grid0.coords t) = ![(tw m 0 (grid0.coords t 1).val).toNat, 0] := ix_0 m _
  rw [e]
  fin_cases a
  · exact hR.symm
  · exact (congrArg (· + k.val) (Nat.zero_mul _)).trans (Nat.zero_add _)

theorem iblk1_at (r : Fin 1024) (R : Fin 32768) (hR : R.val = (tw m 0 (grid0.coords t 1).val).toNat * 1024 + r.val) :
    iblk m hO c 1 t (ix2 r 0) = V m c main_v74 (ix2 R 0) := by
  refine congrArg (V m c main_v74) (funext fun a => Fin.ext ((emb1 (adm m hO) t (ix2 r 0) a).trans ?_))
  have e : ix0 (adm m hO).1 1 (grid0.coords t) = ![(tw m 0 (grid0.coords t 1).val).toNat, 0] := ix_1 m _
  rw [e]
  fin_cases a
  · exact hR.symm
  · rfl

theorem iblk2_at (k : Fin 10752) (q : Fin 1024) (e : Fin 4) (he : e.val = (tw m 1 (grid0.coords t 1).val).toNat) (C : Fin 6144) (hC : C.val = (grid0.coords t 0).val * 1024 + q.val) :
    iblk m hO c 2 t (ix3 0 k q) = V m c main_arg2 (ix3 e k C) := by
  refine congrArg (V m c main_arg2) (funext fun a => Fin.ext ((emb2 (adm m hO) t (ix3 0 k q) a).trans ?_))
  have h : ix0 (adm m hO).1 2 (grid0.coords t) = ![(tw m 1 (grid0.coords t 1).val).toNat, 0, (grid0.coords t 0).val] := ix_2 m _
  rw [h, ← he]
  fin_cases a
  · exact Nat.mul_one _
  · exact (congrArg (· + k.val) (Nat.zero_mul _)).trans (Nat.zero_add _)
  · exact hC.symm

theorem iblk3_at (q : Fin 1024) (e : Fin 4) (he : e.val = (tw m 1 (grid0.coords t 1).val).toNat) (C : Fin 6144) (hC : C.val = (grid0.coords t 0).val * 1024 + q.val) :
    iblk m hO c 3 t (ix3 0 0 q) = V m c main_v75 (ix3 e 0 C) := by
  refine congrArg (V m c main_v75) (funext fun a => Fin.ext ((emb3 (adm m hO) t (ix3 0 0 q) a).trans ?_))
  have h : ix0 (adm m hO).1 3 (grid0.coords t) = ![(tw m 1 (grid0.coords t 1).val).toNat, 0, (grid0.coords t 0).val] := ix_3 m _
  rw [h, ← he]
  fin_cases a
  · exact Nat.mul_one _
  · rfl
  · exact hC.symm

end Cert.KernelIdeal.Run
-- ==== Proof.Step.lean ====
/- One position of the schedule, in numbers: writing the position's rows over what the tile held keeps "right below the
   position's end, zero from there on". -/
module

public import proofs.«01_k».proof.Proof.Spec

@[expose] public section

noncomputable section

namespace Cert.Spec

open Idealize.ShloMosaic Cert.Sched

variable {s : ℕ → ℕ} (hE : E s 4 = 32768)
include hE

/-- A position's rows are not none. -/
theorem Lo_lt_X (i : ℕ) : Lo s i < X s i := by
  obtain ⟨a, b, c⟩ := G_spec hE i
  obtain ⟨h1, h2, h3, h4, h5⟩ := pos_spec hE i
  unfold Lo X Cert.Sched.T
  omega

theorem Lo_le (i : ℕ) : Lo s i < 32768 := (Lo_lt_X hE i).trans_le (X_le hE i).2.2

theorem Hi_le (i : ℕ) : Hi s i ≤ 32768 := by
  unfold Hi
  split
  · exact (X_le hE i).2.2
  · exact (Lo_le hE i).le

theorem step_val (y z p : EReal) (n R : ℕ) (hR : T s n * 1024 ≤ R) (hz : G s n < 4 → Lo s n ≤ R → R < X s n → z = y)
    (h0 : E s 3 ≤ R → y = 0) (hp : n = 0 ∨ T s (n - 1) ≠ T s n → p = 0)
    (hq : ¬ (n = 0 ∨ T s (n - 1) ≠ T s n) → p = if R < X s (n - 1) then y else 0) :
    (if Lo s n ≤ R ∧ R < Hi s n then z else p) = if R < X s n then y else 0 := by
  have hlx := Lo_lt_X hE n
  have key : n < W s 4 → (Lo s n ≤ R ∧ p = 0) ∨ (p = if R < Lo s n then y else 0) := fun hn => by
    rcases Nat.eq_zero_or_pos n with h | h
    · subst h
      exact .inl ⟨by rw [(first hE).2]; omega, hp (.inl rfl)⟩
    · obtain ⟨k, rfl⟩ : ∃ k, n = k + 1 := ⟨n - 1, by omega⟩
      obtain ⟨h1, h2 | ⟨h2, h3⟩⟩ := next hE hn
      · refine .inr ?_
        rw [h1]
        exact hq (by simp only [Nat.add_sub_cancel]; omega)
      · refine .inl ⟨by rw [h1, h3, ← h2]; exact hR, hp (.inr ?_)⟩
        simp only [Nat.add_sub_cancel]; omega
  by_cases hn : n < W s 4
  · by_cases hG : G s n < 4
    · have hh : Hi s n = X s n := if_pos ⟨hn, hG⟩
      rw [hh]
      by_cases hin : Lo s n ≤ R ∧ R < X s n
      · rw [if_pos hin, if_pos hin.2]; exact hz hG hin.1 hin.2
      · rw [if_neg hin]
        rcases key hn with ⟨h1, h2⟩ | h1
        · rw [h2, if_neg (by omega)]
        · rw [h1]
          by_cases hl : R < Lo s n
          · rw [if_pos hl, if_pos (by omega)]
          · rw [if_neg hl, if_neg (by omega)]
    · have hh : Hi s n = Lo s n := if_neg fun h => hG h.2
      rw [hh, if_neg (by omega)]
      have hg4 : G s n = 4 := by have := (G_spec hE n).1; omega
      have hS := (S_le_Lo hE n).1
      rw [hg4, S_succ s 3] at hS
      rcases key hn with ⟨h1, h2⟩ | h1
      · rw [h2, h0 (by omega), ite_self]
      · rw [h1]
        by_cases hl : R < Lo s n
        · rw [if_pos hl, if_pos (by omega)]
        · rw [if_neg hl, h0 (by omega), ite_self]
  · have hh : Hi s n = Lo s n := if_neg fun h => hn h.1
    have ht := total_bounds hE
    obtain ⟨k, rfl⟩ : ∃ k, n = k + 1 := ⟨n - 1, by omega⟩
    obtain ⟨h1, h2, -⟩ := stay hE (i := k) (by omega)
    rw [hh, if_neg (by omega), h2]
    exact hq (by simp only [Nat.add_sub_cancel]; omega)

/-- Tile `k` is left complete by some position that the schedule moves on from, or by the last. -/
theorem tile_done (k : ℕ) (hk : k < 32) : ∃ n, n < 36 ∧ T s n = k ∧ (n = 35 ∨ T s (n + 1) ≠ T s n) := by
  by_contra hno
  push Not at hno
  have hstep : ∀ n, n < 35 → T s (n + 1) ≤ T s n + 1 := fun n _ => by
    by_cases h : n + 1 < W s 4
    · rcases next hE h with ⟨-, h2 | ⟨h2, -⟩⟩ <;> omega
    · have := (stay hE (i := n) (by omega)).1; omega
  have hall : ∀ n, n < 36 → T s n ≤ k := fun n => by
    induction n with
    | zero => intro _; rw [(first hE).1]; omega
    | succ n ih =>
      intro hn
      have h1 := ih (by omega)
      have h2 := hstep n (by omega)
      by_cases h3 : T s n = k
      · have := (hno n (by omega) h3).2; omega
      · omega
  have h35 := hall 35 (by omega)
  have hl := (last hE).2
  exact (hno 35 (by omega) (by omega)).1 rfl

/-- Where the schedule moves on from a tile, the tile's rows are all below the position's end. -/
theorem end_of {n : ℕ} (h : n = 35 ∨ T s (n + 1) ≠ T s n) : X s n = (T s n + 1) * 1024 := by
  rcases h with rfl | h
  · rw [(last hE).1, (last hE).2]
  · by_cases hn : n + 1 < W s 4
    · rcases next hE hn with ⟨-, h2 | ⟨-, h2⟩⟩
      · exact absurd h2 h
      · exact h2
    · exact absurd (stay hE (i := n) (by omega)).1 h

end Cert.Spec
-- ==== Proof.KernelIdeal.Value.lean ====
/- What one point leaves in the output's staging buffer, entry by entry. -/
module

public import proofs.«01_k».proof.Proof.KernelIdeal.Frame
public import proofs.«01_k».proof.Proof.KernelIdeal.Blocks
public import proofs.«01_k».proof.Proof.KernelIdeal.Pay
public import proofs.«01_k».proof.Proof.Step
public import proofs.«01_k».proof.Proof.Spec
public import Idealize.ShloMosaic.Lib.Pipeline.ValueKit.Geometry

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Cert.Spec

theorem shapeCast_col (x : FVec Ideal S32768 .f32) (R : Fin 32768) : shapeCast S32768x1 x shapeCasts_S32768_S32768x1 (ix2 R 0) = x (ix1 R) := by
  pointwise

theorem shapeCast_mid (x : FVec Ideal S4x6144 .f32) (e : Fin 4) (C : Fin 6144) : shapeCast S4x1x6144 x shapeCasts_S4x6144_S4x1x6144 (ix3 e 0 C) = x (ix2 e C) := by
  pointwise

/-- The row scales as the kernel reads them. -/
theorem v74_at (c : Dev nD) (R : Fin 32768) : (V m c main_v74 : FVec Ideal S32768x1 .f32) (ix2 R 0) = (m (c, main_arg1) : XST) (ix1 R) := by
  rw [V_eq, v74_eq]
  exact shapeCast_col _ R

/-- The column scales as the kernel reads them. -/
theorem v75_at (c : Dev nD) (e : Fin 4) (C : Fin 6144) : (V m c main_v75 : FVec Ideal S4x1x6144 .f32) (ix3 e 0 C) = (m (c, main_arg3) : WST) (ix2 e C) := by
  rw [V_eq, v75_eq]
  exact shapeCast_mid _ e C

variable {s : ℕ → ℕ} (hs : ∀ e : Fin 4, (U0 m 0 main_arg4 : IVec S4 32) (ix1 e) = BitVec.ofNat 32 (s e.val)) (hE : Cert.Sched.E s 4 = 32768)

/-- The result's entry over the arguments. -/
abbrev Yk (s : ℕ → ℕ) (c : Dev nD) (R : Fin 32768) (C : Fin 6144) : EReal :=
  Y s (m (c, main_arg0)) (m (c, main_arg1)) (m (c, main_arg2)) (m (c, main_arg3)) R C

include hs hE in
/-- Two positions name the same tile exactly where the words agree. -/
theorem tw0_ne {n k : ℕ} (hn : n < 36) (hk : k < 36) : tw m 0 k ≠ tw m 0 n ↔ Cert.Sched.T s k ≠ Cert.Sched.T s n := by
  refine not_congr ⟨fun h => ?_, fun h => ?_⟩
  · rw [← tw0_nat m hs hE hn, ← tw0_nat m hs hE hk, h]
  · rw [tw0 m hs hE hn, tw0 m hs hE hk, h]

include hs hE in
/-- What a step leaves at an entry of its block, over the entries it reads. -/
theorem stepT_at (i : grid0.Coords) (x0 : Vec Ideal S1024x10752 .fp8e4m3) (x1 : Vec Ideal S1024x1 .f32) (x2 : Vec Ideal S1x10752x1024 .fp8e4m3)
    (x3 : Vec Ideal S1x1x1024 .f32) (y : Vec Ideal S1024x1024 .bf16) (r q : Fin 1024) (R : ℕ) (n : ℕ)
    (hn : (i 1).val = n) (hR : R = Cert.Sched.T s n * 1024 + r.val) :
    (stepT m i x0 x1 x2 x3 y (ix2 r q) : EReal) = if Cert.Sched.Lo s n ≤ R ∧ R < Cert.Sched.Hi s n
      then (∑ k : Fin 10752, (x0 (ix2 r k) : EReal) * (x2 (ix3 0 k q) : EReal)) * ((x1 (ix2 r 0) : EReal) * (x3 (ix3 0 0 q) : EReal))
      else if n = 0 ∨ Cert.Sched.T s (n - 1) ≠ Cert.Sched.T s n then 0 else (y (ix2 r q) : EReal) := by
  have hi : n < 36 := hn ▸ (i 1).isLt
  have hlo := Lo_le hE n
  have hhi := Hi_le hE n
  have hT := Cert.Sched.T_lt hE n
  have c1 : k0_cond1 i (tw m 0 n) (tw m 0 (n - 1)) = 1#1 ↔ (n = 0 ∨ Cert.Sched.T s (n - 1) ≠ Cert.Sched.T s n) := by
    rw [cond1_iff, hn, tw0_ne m hs hE hi (by omega)]
  have hin : (((if k0_cond1 i (tw m 0 n) (tw m 0 (n - 1)) = 1#1 then k0_pay1 (F := Ideal) else y) : Vec Ideal S1024x1024 .bf16) (ix2 r q) : EReal)
      = if n = 0 ∨ Cert.Sched.T s (n - 1) ≠ Cert.Sched.T s n then 0 else (y (ix2 r q) : EReal) := by
    by_cases h : n = 0 ∨ Cert.Sched.T s (n - 1) ≠ Cert.Sched.T s n
    · rw [if_pos h, if_pos (c1.mpr h)]; exact pay1_at _
    · rw [if_neg h, if_neg (fun h' => h (c1.mp h'))]
  unfold stepT stepW
  rw [hn]
  by_cases h2 : k0_cond2 (tw m 2 n) (tw m 3 n) = 1#1
  · rw [if_pos h2, tw2 m hs hE hi, tw3 m hs hE hi]
    generalize hg : (if k0_cond1 i (tw m 0 n) (tw m 0 (n - 1)) = 1#1 then k0_pay1 (F := Ideal) else y) = y'
    rw [hg] at hin
    rw [tw0 m hs hE hi, pay2_at (a := Cert.Sched.Lo s n) (b := Cert.Sched.Hi s n) hT (by omega) (by omega), hin, ← hR]
  · have hw : decide (_ < _) = decide (_ < _) := Cert.WordNat.slt_word (a := Cert.Sched.Lo s n) (b := Cert.Sched.Hi s n) (by omega) (by omega)
    rw [cond2_iff, tw2 m hs hE hi, tw3 m hs hE hi, decide_eq_decide.mp hw] at h2
    rw [if_neg (show ¬ (Cert.Sched.Lo s n ≤ R ∧ R < Cert.Sched.Hi s n) by omega)]
    by_cases h : n = 0 ∨ Cert.Sched.T s (n - 1) ≠ Cert.Sched.T s n
    · rw [if_pos h] at hin ⊢
      rw [if_pos (c1.mpr h)] at hin ⊢
      rw [if_neg (by rw [cond2_iff, tw2 m hs hE hi, tw3 m hs hE hi, decide_eq_decide.mp hw]; exact h2)]; exact hin
    · rw [if_neg h, if_neg (fun h' => h (c1.mp h'))]
      rw [if_neg (by rw [cond2_iff, tw2 m hs hE hi, tw3 m hs hE hi, decide_eq_decide.mp hw]; exact h2)]

variable (hO : Ok m) (c : Dev nD) (t : Fin (cfgM m hO).N)

include hs hE in
/-- What a point leaves at an entry of its block: the product inside the position's rows, what was there elsewhere. -/
theorem stepP_at (y : Vec Ideal S1024x1024 .bf16) (r q : Fin 1024) (R : Fin 32768) (C : Fin 6144) (n : ℕ)
    (hn : (grid0.coords t 1).val = n) (hR : R.val = Cert.Sched.T s n * 1024 + r.val) (hC : C.val = (grid0.coords t 0).val * 1024 + q.val) (e : Fin 4)
    (he : e.val = min (Cert.Sched.G s n) 3) :
    (stepP m hO c t y (ix2 r q) : EReal) = if Cert.Sched.Lo s n ≤ R.val ∧ R.val < Cert.Sched.Hi s n
      then Z (m (c, main_arg0)) (m (c, main_arg1)) (m (c, main_arg2)) (m (c, main_arg3)) e R C
      else if n = 0 ∨ Cert.Sched.T s (n - 1) ≠ Cert.Sched.T s n then 0 else (y (ix2 r q) : EReal) := by
  have hi : n < 36 := hn ▸ (grid0.coords t 1).isLt
  have hR' : R.val = (tw m 0 (grid0.coords t 1).val).toNat * 1024 + r.val := by rw [hn, tw0_nat m hs hE hi]; exact hR
  have he' : e.val = (tw m 1 (grid0.coords t 1).val).toNat := by rw [hn, tw1_nat m hs hE hi]; exact he
  refine (stepT_at m hs hE (grid0.coords t) _ _ _ _ y r q R.val n hn hR).trans ?_
  refine congrArg (fun v : EReal => if Cert.Sched.Lo s n ≤ R.val ∧ R.val < Cert.Sched.Hi s n then v else _) ?_
  have e0 : ∀ k, iblk m hO c 0 t (ix2 r k) = m (c, main_arg0) (ix2 R k) := fun k =>
    (iblk0_at m hO c t r k R hR').trans (congrFun ((V_eq m c main_arg0).trans (arg0_eq m c)) _)
  have e1 : iblk m hO c 1 t (ix2 r 0) = m (c, main_arg1) (ix1 R) := (iblk1_at m hO c t r R hR').trans (v74_at m c R)
  have e2 : ∀ k, iblk m hO c 2 t (ix3 0 k q) = m (c, main_arg2) (ix3 e k C) := fun k =>
    (iblk2_at m hO c t k q e he' C hC).trans (congrFun ((V_eq m c main_arg2).trans (arg2_eq m c)) _)
  have e3 : iblk m hO c 3 t (ix3 0 0 q) = m (c, main_arg3) (ix2 e C) := (iblk3_at m hO c t q e he' C hC).trans (v75_at m c e C)
  exact congrArg₂ (· * ·) (Finset.sum_congr rfl fun k _ => congrArg₂ (fun a b : EReal => a * b) (e0 k) (e2 k)) (congrArg₂ (fun a b : EReal => a * b) e1 e3)

end Cert.KernelIdeal.Run
-- ==== Proof.KernelIdeal.Acc.lean ====
/- What the output's staging buffer holds after each point, and where it is written back. -/
module

public import proofs.«01_k».proof.Proof.KernelIdeal.Frame
public import proofs.«01_k».proof.Proof.KernelIdeal.Value
public import proofs.«01_k».proof.Proof.Spec
public import Idealize.ShloMosaic.Lib.Pipeline.ValueKit.Geometry

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Cert.Spec

variable {s : ℕ → ℕ} (hs : ∀ e : Fin 4, (U0 m 0 main_arg4 : IVec S4 32) (ix1 e) = BitVec.ofNat 32 (s e.val)) (hE : Cert.Sched.E s 4 = 32768)
variable (hO : Ok m) (c : Dev nD)

include hs hE in
/-- A point that finds its tile right below the position before leaves it right below its own position. -/
theorem stepP_inv (t : Fin (cfgM m hO).N) (y : Vec Ideal S1024x1024 .bf16) (r q : Fin 1024) (R : Fin 32768) (C : Fin 6144) (n : ℕ)
    (hn : (grid0.coords t 1).val = n) (hR : R.val = Cert.Sched.T s n * 1024 + r.val) (hC : C.val = (grid0.coords t 0).val * 1024 + q.val)
    (hy : ¬ (n = 0 ∨ Cert.Sched.T s (n - 1) ≠ Cert.Sched.T s n) → (y (ix2 r q) : EReal) = if R.val < Cert.Sched.X s (n - 1) then Yk m s c R C else 0) :
    (stepP m hO c t y (ix2 r q) : EReal) = if R.val < Cert.Sched.X s n then Yk m s c R C else 0 := by
  have he : min (Cert.Sched.G s n) 3 < 4 := by omega
  refine (stepP_at m hs hE hO c t y r q R C n hn hR hC ⟨_, he⟩ rfl).trans ?_
  refine step_val hE _ _ _ n R.val (by omega) (fun hG h1 h2 => ?_) (fun h => Y_none s _ _ _ _ R C h) (fun h => if_pos h) (fun h => (if_neg h).trans (hy h))
  refine (Y_of s _ _ _ _ R C ⟨_, he⟩ ?_).symm
  have g := grp_eq s (g := Cert.Sched.G s n) (R := R.val) (by omega) ((Cert.Sched.S_le_Lo hE n).1.trans h1) (h2.trans_le (Cert.Sched.X_le hE n).1)
  exact g.trans (Nat.min_eq_left (by omega)).symm

include hs hE in
/-- What the staging buffer holds after a point: the result below the point's position, zero from there on. -/
theorem outN_at : ∀ (p : ℕ) (hp : p < grid0.N) (r q : Fin 1024) (R : Fin 32768) (C : Fin 6144),
    R.val = Cert.Sched.T s (p % 36) * 1024 + r.val → C.val = p / 36 * 1024 + q.val →
    (outN m hO c p (ix2 r q) : EReal) = if R.val < Cert.Sched.X s (p % 36) then Yk m s c R C else 0
  | 0, hp, r, q, R, C, hR, hC => by
    obtain ⟨h0, h1⟩ := coords_eq ⟨0, hp⟩
    rw [outN]
    exact stepP_inv m hs hE hO c _ _ r q R C (0 % 36) h1 hR (by rw [h0]; exact hC) fun h => absurd (.inl rfl) h
  | p + 1, hp, r, q, R, C, hR, hC => by
    obtain ⟨h0, h1⟩ := coords_eq ⟨p + 1, hp⟩
    rw [outN_succ m hO c p hp]
    refine stepP_inv m hs hE hO c _ _ r q R C ((p + 1) % 36) h1 hR (by rw [h0]; exact hC) fun h => ?_
    rw [not_or, not_ne_iff] at h
    have e1 : (p + 1) % 36 - 1 = p % 36 := by omega
    have e2 : p / 36 = (p + 1) / 36 := by omega
    rw [e1] at h ⊢
    exact outN_at p (Nat.lt_of_succ_lt hp) r q R C (by rw [h.2]; exact hR) (by rw [e2]; exact hC)

include hs hE in
/-- The output is written back exactly where its position is the schedule's last for the tile: then the tile is complete. -/
theorem flush_end (p : ℕ) (hp : p < grid0.N) (hf : ((cfgM m hO).win (4 : Fin 5)).flush ⟨p, hp⟩ = true) :
    p % 36 = 35 ∨ Cert.Sched.T s (p % 36 + 1) ≠ Cert.Sched.T s (p % 36) := by
  by_contra hno
  rw [not_or, not_ne_iff] at hno
  have hN := N_eq
  have hp' : p + 1 < grid0.N := by omega
  have h := flush4_of m hO p hp' (by
    obtain ⟨a0, a1⟩ := coords_eq ⟨p, hp⟩
    obtain ⟨b0, b1⟩ := coords_eq ⟨p + 1, hp'⟩
    have e1 : (p + 1) % 36 = p % 36 + 1 := by omega
    have e0 : (p + 1) / 36 = p / 36 := by omega
    rw [ix_4, ix_4, a0, a1, b0, b1]
    show ![(tw m 0 ((p + 1) % 36)).toNat, (p + 1) / 36] = ![(tw m 0 (p % 36)).toNat, p / 36]
    rw [e0, e1, tw0_nat m hs hE (by omega), tw0_nat m hs hE (by omega), hno.2])
  exact Bool.false_ne_true (h.symm.trans hf)

include hs hE in
theorem end_flush (p : ℕ) (hp : p < grid0.N) (he : p % 36 = 35 ∨ Cert.Sched.T s (p % 36 + 1) ≠ Cert.Sched.T s (p % 36)) :
    ((cfgM m hO).win (4 : Fin 5)).flush ⟨p, hp⟩ = true := by
  have hN := N_eq
  rw [Pipeline.Window.flush_eq_flushOf]
  unfold Pipeline.Window.flushOf
  rw [Bool.and_eq_true]
  refine ⟨rfl, ?_⟩
  rw [Bool.or_eq_true]
  by_cases hl : p + 1 = grid0.N
  · exact .inl (decide_eq_true hl)
  · refine .inr (decide_eq_true ⟨(by omega : p + 1 < grid0.N), fun hne => ?_⟩)
    have hp' : p + 1 < grid0.N := by omega
    have hne' : ix0 (tbl m) 4 (grid0.coords ⟨p + 1, hp'⟩) = ix0 (tbl m) 4 (grid0.coords ⟨p, hp⟩) := hne
    obtain ⟨a0, a1⟩ := coords_eq ⟨p, hp⟩
    obtain ⟨b0, b1⟩ := coords_eq ⟨p + 1, hp'⟩
    rw [ix_4, ix_4, a0, a1, b0, b1] at hne'
    have z0 : (tw m 0 ((p + 1) % 36)).toNat = (tw m 0 (p % 36)).toNat := congrFun hne' 0
    have z1 : (p + 1) / 36 = p / 36 := congrFun hne' 1
    rw [tw0_nat m hs hE (by omega), tw0_nat m hs hE (by omega)] at z0
    rcases he with he | he
    · omega
    · rw [show (p + 1) % 36 = p % 36 + 1 by omega] at z0
      exact he z0

end Cert.KernelIdeal.Run
-- ==== Proof.KernelIdeal.Final.lean ====
/- The output array after the whole run. -/
module

public import proofs.«01_k».proof.Proof.KernelIdeal.Frame
public import proofs.«01_k».proof.Proof.KernelIdeal.Acc
public import proofs.«01_k».proof.Proof.Spec
public import Idealize.ShloMosaic.Lib.Pipeline.ValueKit.Geometry

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

open Cert.Spec

variable {s : ℕ → ℕ} (hs : ∀ e : Fin 4, (U0 m 0 main_arg4 : IVec S4 32) (ix1 e) = BitVec.ofNat 32 (s e.val)) (hE : Cert.Sched.E s 4 = 32768)
variable (hO : Ok m) (c : Dev nD)

/-- The result over the kernel's arguments. -/
abbrev resultOf (s : ℕ → ℕ) : Buf (Elt Ideal) ((c.tc : Thread nD τ).loc main_v76) :=
  YA s (m ((c.tc : Thread nD τ).loc main_arg0)) (m ((c.tc : Thread nD τ).loc main_arg1)) (m ((c.tc : Thread nD τ).loc main_arg2)) (m ((c.tc : Thread nD τ).loc main_arg3))

theorem ix_eta {a b : ℕ} (i : (⟨2, ![a, b]⟩ : Shape).Idx) : ix2 (i 0) (i 1) = i := funext fun x => by fin_cases x <;> rfl

include hs hE in
/-- A block is written back complete. -/
theorem after_end (p : ℕ) (hp : p < grid0.N) (hf : ((cfgM m hO).win (4 : Fin 5)).flush ⟨p, hp⟩ = true) (y : S1024x1024.Idx) (i : S32768x6144.Idx)
    (h0 : (i 0).val = Cert.Sched.T s (p % 36) * 1024 + (y 0).val) (h1 : (i 1).val = p / 36 * 1024 + (y 1).val) :
    (outN m hO c p y : EReal) = resultOf m c s i := by
  have hend := end_of hE (flush_end m hs hE hO p hp hf)
  have hy : (y 0).val < 1024 := (y 0).isLt
  rw [← ix_eta y]
  refine (outN_at m hs hE hO c p hp (y 0) (y 1) (i 0) (i 1) h0 h1).trans ?_
  rw [if_pos (by omega)]
  rfl

include hs hE in
/-- The output array in the end. -/
theorem final : (dats m hO 0 c).arrAt (4 : Fin 5) (cfgM m hO).N = resultOf m c s := by
  refine arr4_of (adm m hO) c (dats m hO 0 c) (resultOf m c s) (fun t hf y i hi => ?_) fun i => ?_
  · obtain ⟨a0, a1⟩ := coords_eq t
    have e : ix0 (adm m hO).1 4 (grid0.coords t) = _ := ix_4 m (grid0.coords t)
    rw [a0, a1, tw0_nat m hs hE (by omega)] at e
    rw [e] at hi
    exact (congrFun (after_4 m hO c t) y).trans (after_end m hs hE hO c t.val t.isLt hf y i (hi 0) (hi 1))
  · have b0 : (i 0).val < 32768 := (i 0).isLt
    have b1 : (i 1).val < 6144 := (i 1).isLt
    obtain ⟨n, hn, hT, hend⟩ := tile_done hE ((i 0).val / 1024) (by omega)
    have hN := N_eq
    have hp : (i 1).val / 1024 * 36 + n < grid0.N := by omega
    have e0 : ((i 1).val / 1024 * 36 + n) % 36 = n := by omega
    have e1 : ((i 1).val / 1024 * 36 + n) / 36 = (i 1).val / 1024 := by omega
    refine ⟨⟨_, hp⟩, end_flush m hs hE hO _ hp (by rw [e0]; exact hend), fun x => ?_⟩
    obtain ⟨a0, a1⟩ := coords_eq ⟨_, hp⟩
    have e := ix_4 m (grid0.coords ⟨_, hp⟩)
    rw [a0, a1, tw0_nat m hs hE (by omega)] at e
    have e' : ix0 (adm m hO).1 4 (grid0.coords ⟨_, hp⟩) = ![(i 0).val / 1024, (i 1).val / 1024] := by
      refine e.trans ?_
      show ![Cert.Sched.T s (((i 1).val / 1024 * 36 + n) % 36), ((i 1).val / 1024 * 36 + n) / 36] = _
      rw [e0, e1, hT]
    rw [e']
    fin_cases x
    · show (i 0).val / 1024 * 1024 ≤ (i 0).val ∧ (i 0).val < (i 0).val / 1024 * 1024 + 1024
      omega
    · show (i 1).val / 1024 * 1024 ≤ (i 1).val ∧ (i 1).val < (i 1).val / 1024 * 1024 + 1024
      omega

include hs hE hO in
/-- The kernel's run: the result in the output, the arguments unchanged. -/
theorem run_value : θ_run defs (onTc (τ := τ) (main (F := Ideal))) ⟨m, fun _ => 0, ρ⟩ (fun r => ∀ c : Dev nD,
      r.2.mem ((c.tc : Thread nD τ).loc main_v76) = resultOf m c s
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).2.2.2.2.2.trans (final m hs hE hO c), (h.1 c).1, (h.1 c).2.1, (h.1 c).2.2.1, (h.1 c).2.2.2.1, (h.1 c).2.2.2.2.1⟩)
    (run_result m ρ hO)

end Cert.KernelIdeal.Run
-- ==== Proof.RefPay.lean ====
/- The reference's stored block, entry by entry, over the extended reals. -/
module

public import proofs.«01_k».proof.Proof.Gen.ReferenceIdeal.Skeleton
public import proofs.«01_k».proof.Proof.Mask
public import Idealize.ShloMosaic.Lib.ValueIdx
public import Idealize.ShloMosaic.Lib.Pointwise

@[expose] public section

set_option maxRecDepth 16384

noncomputable section

namespace Cert.ReferenceIdeal.Val

open Cert.ReferenceIdeal Cert.ReferenceIdeal.Gen
open Idealize.ShloMosaic Idealize.ShloMosaic.WordCmp Cert.WordNat

theorem add_zero_word (v : BitVec 32) : Scalar.addi (0#32) v = v := BitVec.zero_add v
theorem adds_word (a b : ℕ) : Scalar.addi (BitVec.ofNat 32 a) (BitVec.ofNat 32 b) = BitVec.ofNat 32 (a + b) := add_word a b

variable {a b c : ℕ} (ha : a < 2 ^ 31) (hb : b < 2 ^ 31) (R : Fin 32768) (C : Fin 6144)

include ha in
theorem pay2_at (x : Vec Ideal S32768x10752 .fp8e4m3) (w : Vec Ideal S1x10752x6144 .fp8e4m3) :
    (k0_pay2 (F := Ideal) (BitVec.ofNat 32 a) x w (ix2 R C) : EReal)
      = if R.val < a then ∑ k : Fin 10752, (x (ix2 R k) : EReal) * (w (ix3 0 k C) : EReal) else 0 := by
  unfold k0_pay2
  pointwise
  rw [add_zero_word, show (0#32 : BitVec 32) = BitVec.ofNat 32 0 from rfl, sel_range (by omega) (by omega) ha]
  simp only [Nat.zero_le, true_and]

theorem pay3_at (ws : Vec Ideal S1x6144 .f32) : (k0_pay3 (F := Ideal) ws (ix2 R C) : EReal) = ws (ix2 0 C) := by
  unfold k0_pay3
  pointwise
  rw [show (0#32 : BitVec 32) = BitVec.ofNat 32 0 from rfl, sel_ge (by omega) (by omega), if_pos (Nat.zero_le _)]

theorem pay4_at (x : Vec Ideal S32768x10752 .fp8e4m3) (w : Vec Ideal S1x10752x6144 .fp8e4m3) :
    (k0_pay4 (F := Ideal) x w (ix2 R C) : EReal) = ∑ k : Fin 10752, (x (ix2 R k) : EReal) * (w (ix3 0 k C) : EReal) := by
  unfold k0_pay4
  pointwise

theorem pay8_at (x : Vec Ideal S32768x10752 .fp8e4m3) (w : Vec Ideal S1x10752x6144 .fp8e4m3) :
    (k0_pay8 (F := Ideal) x w (ix2 R C) : EReal) = ∑ k : Fin 10752, (x (ix2 R k) : EReal) * (w (ix3 0 k C) : EReal) := by
  unfold k0_pay8
  pointwise

theorem pay7_at {a b : ℕ} (ha : a < 2 ^ 31) (hb : b < 2 ^ 31) (v26 : FVec Ideal S32768x6144 .f32) (w1 w2 : Vec Ideal S1x6144 .f32) :
    (k0_pay7 (F := Ideal) (iota .tc S32768x1 32 [0] iota_S32768x1_d0_w32) (BitVec.ofNat 32 a) v26 (BitVec.ofNat 32 b) w1 w2 (ix2 R C) : EReal)
      = if b ≤ R.val then w2 (ix2 0 C) else if a ≤ R.val then w1 (ix2 0 C) else v26 (ix2 R C) := by
  unfold k0_pay7
  pointwise
  rw [sel_ge (by omega) hb, sel_ge (by omega) ha]

theorem pay6_at {s0 s1 s2 : ℕ} (h0 : s0 + s1 + s2 < 2 ^ 31) (v16 v32 : FVec Ideal S32768x6144 .f32) (x : Vec Ideal S32768x10752 .fp8e4m3) (w : Vec Ideal S1x10752x6144 .fp8e4m3) :
    (k0_pay6 (F := Ideal) (iota .tc S32768x1 32 [0] iota_S32768x1_d0_w32) v16 (BitVec.ofNat 32 (s0 + s1)) v32 (k0_pay5 (F := Ideal) (BitVec.ofNat 32 s0) (BitVec.ofNat 32 s1)) (BitVec.ofNat 32 s2) x w (ix2 R C) : EReal)
      = if s0 + s1 ≤ R.val ∧ R.val < s0 + s1 + s2 then ∑ k : Fin 10752, (x (ix2 R k) : EReal) * (w (ix3 0 k C) : EReal)
        else if s0 ≤ R.val ∧ R.val < s0 + s1 then v32 (ix2 R C) else v16 (ix2 R C) := by
  unfold k0_pay6 k0_pay5
  pointwise
  simp only [adds_word, add_zero_word]
  simp only [adds_word, Nat.zero_add]
  rw [sel_range (by omega) (by omega) h0, sel_range (by omega) (by omega) (by omega)]

theorem pay1_at {a b : ℕ} (ha : a < 2 ^ 31) (hb : b < 2 ^ 31) (v64 v74 v80 : FVec Ideal S32768x6144 .f32) (w : Vec Ideal S1x6144 .f32) (xs : Vec Ideal S32768x1 .f32) :
    (k0_pay1 (F := Ideal) (iota .tc S32768x1 32 [0] iota_S32768x1_d0_w32) (BitVec.ofNat 32 a) v64 v74 (BitVec.ofNat 32 b) v80 w xs (ix2 R C) : EReal)
      = (if a ≤ R.val ∧ R.val < b then (v80 (ix2 R C) : EReal) else v64 (ix2 R C)) * ((xs (ix2 R 0) : EReal) * (if a ≤ R.val then (w (ix2 0 C) : EReal) else v74 (ix2 R C))) := by
  unfold k0_pay1
  pointwise
  rw [sel_ge (by omega) ha, sel_range (by omega) ha hb]

end Cert.ReferenceIdeal.Val
-- ==== Proof.RefValue.lean ====
/- What the reference's one block holds after its body, entry by entry. -/
module

public import proofs.«01_k».proof.Proof.Gen.ReferenceIdeal.Frame
public import proofs.«01_k».proof.Proof.RefPay
public import proofs.«01_k».proof.Proof.Spec
public import Idealize.ShloMosaic.Lib.Pipeline.Value

@[expose] public section

set_option maxRecDepth 16384

noncomputable section

namespace Cert.ReferenceIdeal.Val

open Cert.ReferenceIdeal Cert.ReferenceIdeal.Gen
open Idealize.ShloMosaic Idealize.ShloMosaic.TcCoe Idealize.SL.Sem
open Idealize.ShloMosaic.Pipeline (Dat)
open Cert.Sched Cert.Spec

theorem hz : (![0, 0] : Fin 2 → Nat) = fun _ => 0 := funext fun a => by fin_cases a <;> rfl

/-- Entry `e` of the sizes. -/
theorem ld1 (x : Vec Ideal S4 .i32) (e : Fin 4) {o : ℕ} (ho : o = e.val) (h) (j) :
    View.ld x (Rect.unit (s := S4) ![o] ![1] h) j = x (ix1 e) := by
  subst ho
  refine congrArg x (funext fun a => Fin.ext ?_)
  fin_cases a
  have : (j 0).val < 1 := (j 0).isLt
  simp only [Rect.emb, Rect.unit, ix1] at this ⊢
  simp
  omega

/-- Row `e` of the column scales. -/
theorem ld2 (x : Vec Ideal S4x6144 .f32) (e : Fin 4) {o : ℕ} (ho : o = e.val) (h) (C : Fin 6144) :
    View.ld x (Rect.unit (s := S4x6144) ![o, 0] ![1, 6144] h) (ix2 (0 : Fin 1) C) = x (ix2 e C) := by
  subst ho
  refine congrArg x (funext fun a => Fin.ext ?_)
  fin_cases a <;> simp [Rect.emb, Rect.unit, ix2]

/-- Group `e`'s weights. -/
theorem ld3 (x : Vec Ideal S4x10752x6144 .fp8e4m3) (e : Fin 4) {o : ℕ} (ho : o = e.val) (h) (k : Fin 10752) (C : Fin 6144) :
    View.ld x (Rect.unit (s := S4x10752x6144) ![o, 0, 0] ![1, 10752, 6144] h) (ix3 (0 : Fin 1) k C) = x (ix3 e k C) := by
  subst ho
  refine congrArg x (funext fun a => Fin.ext ?_)
  fin_cases a <;> simp [Rect.emb, Rect.unit, ix3]

theorem out_at (c : Dev nD) (arg0 : Memref sig .tc .smem S4 .i32) (harg0 : arg0.IsWhole) (arg1 : Memref sig .tc .vmem S32768x10752 .fp8e4m3) (harg1 : arg1.IsWhole) (arg2 : Memref sig .tc .vmem S32768x1 .f32) (harg2 : arg2.IsWhole) (arg3 : Memref sig .tc .vmem S4x10752x6144 .fp8e4m3) (harg3 : arg3.IsWhole) (arg4 : Memref sig .tc .vmem S4x6144 .f32) (harg4 : arg4.IsWhole) (arg5 : Memref sig .tc .vmem S32768x6144 .bf16) (harg5 : arg5.IsWhole)
    (x0 : Vec Ideal S4 .i32) (x1 : Vec Ideal S32768x10752 .fp8e4m3) (x2 : Vec Ideal S32768x1 .f32) (x3 : Vec Ideal S4x10752x6144 .fp8e4m3) (x4 : Vec Ideal S4x6144 .f32)
    (s : ℕ → ℕ) (hs : ∀ e : Fin 4, x0 (ix1 e) = BitVec.ofNat 32 (s e.val)) (hE : E s 4 = 32768)
    (xs : XST) (hx : ∀ R, xs (ix1 R) = x2 (ix2 R 0)) (R : Fin 32768) (C : Fin 6144) :
    out0_A_5 c arg0 harg0 arg1 harg1 arg2 harg2 arg3 harg3 arg4 harg4 arg5 harg5 x0 x1 x2 x3 x4 (ix2 R C) = Y s x1 xs x3 x4 R C := by
  unfold out0_A_5
  rw [View.read_writes_eq_canon _ _ _ (cover0_A_5 c arg0 harg0 arg1 harg1 arg2 harg2 arg3 harg3 arg4 harg4 arg5 harg5 x0 x1 x2 x3 x4)]
  unfold kernelRun0_A
  dsimp only
  sl_unfold_words
  rw [View.canon_unit_zero hz]
  simp only [View.readAt_eq_ld, harg0.read_unread, harg1.read_unread, harg2.read_unread, harg3.read_unread, harg4.read_unread, View.ld_unit_zero (S := S32768x10752) hz, View.ld_unit_zero (S := S32768x1) hz, shapeCast_self]
  have m0 := E_mono s (show 0 ≤ 1 by omega)
  have m1 := E_mono s (show 1 ≤ 2 by omega)
  have m2 := E_mono s (show 2 ≤ 3 by omega)
  have m3 := E_mono s (show 3 ≤ 4 by omega)
  have e0 : s 0 = E s 0 := (E_zero s).symm
  have e1 : E s 0 + s 1 = E s 1 := (E_succ s 0).symm
  have e2 : E s 1 + s 2 = E s 2 := (E_succ s 1).symm
  have e3 : E s 2 + s 3 = E s 3 := (E_succ s 2).symm
  have hs0 : x0 (ix1 0) = BitVec.ofNat 32 (E s 0) := (hs 0).trans (by rw [← e0]; rfl)
  have hs1 : x0 (ix1 1) = BitVec.ofNat 32 (s 1) := hs 1
  have hs2 : x0 (ix1 2) = BitVec.ofNat 32 (s 2) := hs 2
  have hs3 : x0 (ix1 3) = BitVec.ofNat 32 (s 3) := hs 3
  simp only [ld1 x0 0 (o := 0) rfl, ld1 x0 1 (o := 1) rfl, ld1 x0 2 (o := 2) rfl, ld1 x0 3 (o := 3) rfl, hs0, hs1, hs2, hs3, adds_word, Nat.zero_add, e1, e2, e3]
  rw [pay1_at R C (by omega) (by omega), ← e1, pay6_at R C (by omega), e1, e2, pay2_at (by omega), pay7_at R C (by omega) (by omega), pay3_at, pay4_at, pay8_at]
  simp only [ld2 x4 0 (o := 0) rfl, ld2 x4 1 (o := 1) rfl, ld2 x4 2 (o := 2) rfl, ld2 x4 3 (o := 3) rfl, ld3 x3 0 (o := 0) rfl, ld3 x3 1 (o := 1) rfl,
    ld3 x3 2 (o := 2) rfl, ld3 x3 3 (o := 3) rfl, ← hx]
  rcases lt_or_ge R.val (E s 0) with c0 | c0
  · rw [Y_of s x1 xs x3 x4 R C 0 (by unfold grp; rw [if_pos c0]; rfl), if_neg (by omega), if_neg (by omega), if_neg (by omega), if_pos c0, if_neg (by omega),
      if_neg (by omega), if_neg (by omega)]
    rfl
  rcases lt_or_ge R.val (E s 1) with c1 | c1
  · rw [Y_of s x1 xs x3 x4 R C 1 (by unfold grp; rw [if_neg (by omega), if_pos c1]; rfl), if_neg (by omega), if_neg (by omega), if_pos ⟨c0, c1⟩, if_neg (by omega),
      if_neg (by omega), if_pos c0]
    rfl
  rcases lt_or_ge R.val (E s 2) with c2 | c2
  · rw [Y_of s x1 xs x3 x4 R C 2 (by unfold grp; rw [if_neg (by omega), if_neg (by omega), if_pos c2]; rfl), if_neg (by omega), if_pos ⟨c1, c2⟩, if_neg (by omega),
      if_pos c1]
    rfl
  rcases lt_or_ge R.val (E s 3) with c3 | c3
  · rw [Y_of s x1 xs x3 x4 R C 3 (by unfold grp; rw [if_neg (by omega), if_neg (by omega), if_neg (by omega), if_pos c3]; rfl), if_pos ⟨c2, c3⟩, if_pos c2]
    rfl
  · rw [Y_none s x1 xs x3 x4 R C c3, if_neg (by omega), if_neg (by omega), if_neg (by omega), if_neg (by omega), zero_mul]

end Cert.ReferenceIdeal.Val
-- ==== Proof.RefFinal.lean ====
/- The reference's run: its result array ends at the entries of the specification, its arguments unchanged. -/
module

public import proofs.«01_k».proof.Proof.RefValue
public import proofs.«01_k».proof.Proof.Pre
public import Idealize.ShloMosaic.Lib.StableHlo.RunRead

@[expose] public section

set_option maxRecDepth 16384

noncomputable section

namespace Cert.ReferenceIdeal.Val

open Cert.ReferenceIdeal Cert.ReferenceIdeal.Gen
open Idealize.ShloMosaic Idealize.ShloMosaic.TcCoe Idealize.SL.Sem
open Idealize.ShloMosaic.Pipeline (Dat)
open Cert.Sched Cert.Spec

variable (m : (ℓ : Loc nD τ sig) → Buf (Elt Ideal) ℓ) (ρ : Dev nD → PrngReg) (c : Dev nD) (t : Fin cfg0.N)

theorem iblk_0 : iblk m c 0 t = m ((c : Thread nD τ).loc main_arg4) :=
  (Memref.read_access_unit_zero (Elt Ideal) main_arg4 (funext fun a => Nat.zero_mul _) _ _).trans (V_main_arg4 m c)
theorem iblk_1 : iblk m c 1 t = m ((c : Thread nD τ).loc main_arg0) :=
  (Memref.read_access_unit_zero (Elt Ideal) main_arg0 (funext fun a => Nat.zero_mul _) _ _).trans (V_main_arg0 m c)
theorem iblk_3 : iblk m c 3 t = m ((c : Thread nD τ).loc main_arg2) :=
  (Memref.read_access_unit_zero (Elt Ideal) main_arg2 (funext fun a => Nat.zero_mul _) _ _).trans (V_main_arg2 m c)
theorem iblk_4 : iblk m c 4 t = m ((c : Thread nD τ).loc main_arg3) :=
  (Memref.read_access_unit_zero (Elt Ideal) main_arg3 (funext fun a => Nat.zero_mul _) _ _).trans (V_main_arg3 m c)

theorem V_main_v0 : V m c main_v0 = shapeCast S32768x1 (m ((c : Thread nD τ).loc main_arg1)) shapeCasts_S32768_S32768x1 := by
  unfold V hostOps0
  after_reads_simp
  rfl

theorem iblk_2 : iblk m c 2 t = shapeCast S32768x1 (m ((c : Thread nD τ).loc main_arg1)) shapeCasts_S32768_S32768x1 :=
  (Memref.read_access_unit_zero (Elt Ideal) main_v0 (funext fun a => Nat.zero_mul _) _ _).trans (V_main_v0 m c)

/-- The sizes the reference reads. -/
def sz : ℕ → ℕ := Cert.Pre.sizes (m ((c : Thread nD τ).loc main_arg4) : IVec S4 32)

abbrev result : Buf (Elt Ideal) ((c : Thread nD τ).loc main_v1) :=
  YA (sz m c) (m ((c : Thread nD τ).loc main_arg0)) (m ((c : Thread nD τ).loc main_arg1)) (m ((c : Thread nD τ).loc main_arg2)) (m ((c : Thread nD τ).loc main_arg3))

theorem ix_eta {a b : ℕ} (i : (⟨2, ![a, b]⟩ : Shape).Idx) : ix2 (i 0) (i 1) = i := funext fun x => by fin_cases x <;> rfl

theorem outs_eq (hE : E (sz m c) 4 = 32768) : outsAt0 m c t = result m c := by
  funext i
  unfold outsAt0
  rw [iblk_0, iblk_1, iblk_2, iblk_3, iblk_4]
  rw [← ix_eta i]
  refine out_at c _ _ _ _ _ _ _ _ _ _ _ _ _ _ _ _ _ (sz m c) (fun e => Cert.Pre.sizes_at _ e) hE (m ((c : Thread nD τ).loc main_arg1)) (fun R => ?_) (i 0) (i 1)
  pointwise

theorem flushed_eq (hE : E (sz m c) 4 = 32768) : (dats m 0 c).flushed 5 t = ((cfg0.win 5).blk t).view.read (Elt Ideal) (result m c) := by
  show (cfg0.win 5).cut (grid0.coords t) ((dats m 0 c).after 5 t) = _
  rw [after0_5, outs_eq m c t hE]
  exact (Memref.read_access_unit_zero (Elt Ideal) main_v1 (funext fun a => Nat.zero_mul _) _ (result m c)).symm

/-- The one point. -/
abbrev t0 : Fin cfg0.N := ⟨0, by decide⟩

theorem final (hE : E (sz m c) 4 = 32768) : (dats m 0 c).arrAt 5 cfg0.N = result m c :=
  (dats m 0 c).arrAt_eq_of_cover 5 (result m c) (fun t _ => flushed_eq m c t hE) fun i =>
    ⟨t0, flush0_5 t0, by
      show i ∈ ((View.whole main_v1).slice (win0_5.rect t0)).set
      rw [View.set_slice_whole, Rect.mem_set_unit]
      intro a
      exact ⟨(Nat.zero_mul _).le.trans (Nat.zero_le _), lt_of_lt_of_eq (i a).isLt (show _ = 0 * _ + _ by rw [Nat.zero_mul, Nat.zero_add])⟩⟩

theorem run (hE : ∀ c, E (sz m c) 4 = 32768) : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h.1 c).trans (final m c (hE c)), h.2 c⟩)
    (θ_run_and ((θ_run defs _ _).mono (fun _ h c => (h c).1 5) (run_main m ρ)) (unchanged m ρ))

end Cert.ReferenceIdeal.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_sizes_fit
public import proofs.«01_k».proof.Proof.Kernel.Frame
public import proofs.«01_k».proof.Proof.KernelIdeal.Frame
public import proofs.«01_k».proof.Proof.KernelIdeal.Final
public import proofs.«01_k».proof.Proof.RefFinal
public import Idealize.ShloMosaic.Adequacy
public import Idealize.ShloMosaic.Init

@[expose] public section

noncomputable section

namespace Cert.Proof

open Idealize.ShloMosaic Idealize.SL.Sem

theorem algebraic [Cert.Pre_sizes_fit.Facts] : Cert.algebraic_KernelIdeal_ReferenceIdeal := fun m g m' g' hpre hag => by
  have hE := Cert.KernelIdeal.Run.sz_full m hpre
  have hc : ∀ c : Dev Cert.KernelIdeal.nD, c = 0 := fun c => Subsingleton.elim c 0
  have hsz : ∀ c, Cert.ReferenceIdeal.Val.sz m' c = Cert.KernelIdeal.Run.sz m := fun c => by
    rw [hc c]
    exact congrArg (fun v => Cert.Pre.sizes v) (hag 0).2.2.2.2
  refine ⟨fun c => Cert.KernelIdeal.Run.resultOf m c (Cert.KernelIdeal.Run.sz m),
    Cert.KernelIdeal.Run.run_value m g (Cert.KernelIdeal.Run.sz_at m) hE (Cert.KernelIdeal.Run.ok_of_pre m hpre), ?_⟩
  refine (θ_run _ _ _).mono (fun r h c => ⟨(h c).1.trans ?_, (h c).2⟩) (Cert.ReferenceIdeal.Val.run m' g' fun c => by rw [hsz c]; exact hE)
  obtain ⟨h0, h1, h2, h3, -⟩ := hag c
  unfold Cert.ReferenceIdeal.Val.result Cert.KernelIdeal.Run.resultOf
  rw [hsz c]
  congr 1

theorem claim : Cert.Claim := ⟨Cert.Kernel.Gen.facts, Cert.KernelIdeal.Gen.facts, Cert.ReferenceIdeal.Gen.facts, Cert.Pre_sizes_fit.Gen.facts,
  fun m ρ h => Cert.Kernel.Run.frame m ρ (Cert.Kernel.Run.ok_of_pre m h),
  fun m ρ h => Cert.KernelIdeal.Run.frame m ρ (Cert.KernelIdeal.Run.ok_of_pre m h),
  fun m ρ _ => Cert.ReferenceIdeal.Gen.frame m ρ,
  fun m ρ _ => Cert.ReferenceIdeal.Gen.frame m ρ,
  trivial,
  algebraic⟩

end Cert.Proof

end
